-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1024x512 : Shape := ⟨2, ![1024, 512]⟩
abbrev S192x512 : Shape := ⟨2, ![192, 512]⟩
abbrev S7 : Shape := ⟨1, ![7]⟩
abbrev S6 : Shape := ⟨1, ![6]⟩
abbrev S_ : Shape := ⟨0, ![]⟩
abbrev S1 : Shape := ⟨1, ![1]⟩
abbrev S32x512 : Shape := ⟨2, ![32, 512]⟩
abbrev S128x512 : Shape := ⟨2, ![128, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .local _ .vmem, ⟨0, _⟩ => ⟨S512x512, .f32⟩
  | .local _ .vmem, ⟨1, _⟩ => ⟨S192x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v24 : BitVec 32 := Scalar.muli v2 c4_i32_12
  let v25 : BitVec 32 := Scalar.addi c0_i32_13 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v26 : BitVec 32 := Scalar.muli v5 c2_i32_14
  let v27 : BitVec 32 := Scalar.addi v25 v26
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let c1_i32_15 : BitVec 32 := 1#32
  let v28 : BitVec 32 := Scalar.muli v20 c1_i32_15
  let v29 : BitVec 32 := Scalar.addi v27 v28
  v29.toNat
def k0_dev2 (d0 : Dev nD) : Nat :=
  let c0_i32_18 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_17 : BitVec 32 := 4#32
  let v30 : BitVec 32 := Scalar.muli v21 c4_i32_17
  let v31 : BitVec 32 := Scalar.addi c0_i32_18 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v32 : BitVec 32 := Scalar.muli v5 c2_i32_19
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v34 : BitVec 32 := Scalar.muli v8 c1_i32_20
  let v35 : BitVec 32 := Scalar.addi v33 v34
  v35.toNat
def k0_dev3 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v36 : BitVec 32 := Scalar.muli v2 c4_i32_22
  let v37 : BitVec 32 := Scalar.addi c0_i32_23 v36
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_10 v5
  let c2_i32_24 : BitVec 32 := 2#32
  let v38 : BitVec 32 := Scalar.muli v22 c2_i32_24
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v40 : BitVec 32 := Scalar.muli v8 c1_i32_25
  let v41 : BitVec 32 := Scalar.addi v39 v40
  v41.toNat
def k0_off1 (d0 : Dev nD) (c0_i32_28 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.addi v2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c192_i32 : BitVec 32 := 192#32
  let v42 : BitVec 32 := Scalar.muli v19 c192_i32
  let v46 : BitVec 32 := Scalar.addi v42 c0_i32_28
  let c0_i32_37 : BitVec 32 := 0#32
  ![v46.toNat, 0]
def k0_dev4 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v47 : BitVec 32 := Scalar.muli v2 c4_i32_31
  let v48 : BitVec 32 := Scalar.addi c0_i32_32 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v49 : BitVec 32 := Scalar.muli v5 c2_i32_33
  let v50 : BitVec 32 := Scalar.addi v48 v49
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let c1_i32_34 : BitVec 32 := 1#32
  let v51 : BitVec 32 := Scalar.muli v20 c1_i32_34
  let v52 : BitVec 32 := Scalar.addi v50 v51
  v52.toNat
def k0_dev5 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v60 : BitVec 32 := Scalar.muli v2 c4_i32_40
  let v61 : BitVec 32 := Scalar.addi c0_i32_41 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v62 : BitVec 32 := Scalar.muli v5 c2_i32_42
  let v63 : BitVec 32 := Scalar.addi v61 v62
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let c1_i32_43 : BitVec 32 := 1#32
  let v64 : BitVec 32 := Scalar.muli v20 c1_i32_43
  let v65 : BitVec 32 := Scalar.addi v63 v64
  v65.toNat
def k0_dev6 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v73 : BitVec 32 := Scalar.muli v2 c4_i32_49
  let v74 : BitVec 32 := Scalar.addi c0_i32_50 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v75 : BitVec 32 := Scalar.muli v5 c2_i32_51
  let v76 : BitVec 32 := Scalar.addi v74 v75
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let c1_i32_52 : BitVec 32 := 1#32
  let v77 : BitVec 32 := Scalar.muli v20 c1_i32_52
  let v78 : BitVec 32 := Scalar.addi v76 v77
  v78.toNat
def k0_dev7 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v86 : BitVec 32 := Scalar.muli v2 c4_i32_58
  let v87 : BitVec 32 := Scalar.addi c0_i32_59 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v88 : BitVec 32 := Scalar.muli v5 c2_i32_60
  let v89 : BitVec 32 := Scalar.addi v87 v88
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let c1_i32_61 : BitVec 32 := 1#32
  let v90 : BitVec 32 := Scalar.muli v20 c1_i32_61
  let v91 : BitVec 32 := Scalar.addi v89 v90
  v91.toNat
def k0_dev8 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v99 : BitVec 32 := Scalar.muli v2 c4_i32_67
  let v100 : BitVec 32 := Scalar.addi c0_i32_68 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v101 : BitVec 32 := Scalar.muli v5 c2_i32_69
  let v102 : BitVec 32 := Scalar.addi v100 v101
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let c1_i32_70 : BitVec 32 := 1#32
  let v103 : BitVec 32 := Scalar.muli v20 c1_i32_70
  let v104 : BitVec 32 := Scalar.addi v102 v103
  v104.toNat
def k0_dev9 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v112 : BitVec 32 := Scalar.muli v2 c4_i32_75
  let v113 : BitVec 32 := Scalar.addi c0_i32_76 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v114 : BitVec 32 := Scalar.muli v5 c2_i32_77
  let v115 : BitVec 32 := Scalar.addi v113 v114
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let c1_i32_78 : BitVec 32 := 1#32
  let v116 : BitVec 32 := Scalar.muli v20 c1_i32_78
  let v117 : BitVec 32 := Scalar.addi v115 v116
  v117.toNat
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v43 : BitVec 32 := Scalar.muli v8 c512_i32
  let c384_i32 : BitVec 32 := 384#32
  let v124 : BitVec 32 := Scalar.addi v43 c384_i32
  let c0_i32_87 : BitVec 32 := 0#32
  ![v124.toNat, 0]
def k0_dev10 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v125 : BitVec 32 := Scalar.muli v2 c4_i32_83
  let v126 : BitVec 32 := Scalar.addi c0_i32_84 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v127 : BitVec 32 := Scalar.muli v5 c2_i32_85
  let v128 : BitVec 32 := Scalar.addi v126 v127
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let c1_i32_86 : BitVec 32 := 1#32
  let v129 : BitVec 32 := Scalar.muli v20 c1_i32_86
  let v130 : BitVec 32 := Scalar.addi v128 v129
  v130.toNat
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v43 : BitVec 32 := Scalar.muli v8 c512_i32
  let c0_i32_90 : BitVec 32 := 0#32
  ![v43.toNat, 0]
def k0_off4 (d0 : Dev nD) (c0_i32_100 : BitVec 32) : Fin 2 → Nat :=
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let c512_i32_27 : BitVec 32 := 512#32
  let v45 : BitVec 32 := Scalar.muli v44 c512_i32_27
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.addi v2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c192_i32 : BitVec 32 := 192#32
  let v42 : BitVec 32 := Scalar.muli v19 c192_i32
  let v148 : BitVec 32 := Scalar.addi v45 v42
  let v149 : BitVec 32 := Scalar.addi v148 c0_i32_100
  let c0_i32_107 : BitVec 32 := 0#32
  ![v149.toNat, 0]
def k0_dev11 (d0 : Dev nD) : Nat :=
  let c0_i32_104 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_103 : BitVec 32 := 4#32
  let v150 : BitVec 32 := Scalar.muli v21 c4_i32_103
  let v151 : BitVec 32 := Scalar.addi c0_i32_104 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v152 : BitVec 32 := Scalar.muli v5 c2_i32_105
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v154 : BitVec 32 := Scalar.muli v8 c1_i32_106
  let v155 : BitVec 32 := Scalar.addi v153 v154
  v155.toNat
def k0_dev12 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v178 : BitVec 32 := Scalar.muli v2 c4_i32_126
  let v179 : BitVec 32 := Scalar.addi c0_i32_127 v178
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_10 v5
  let c2_i32_128 : BitVec 32 := 2#32
  let v180 : BitVec 32 := Scalar.muli v22 c2_i32_128
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v182 : BitVec 32 := Scalar.muli v8 c1_i32_129
  let v183 : BitVec 32 := Scalar.addi v181 v182
  v183.toNat
def k0_dev13 (d0 : Dev nD) : Nat :=
  let c0_i32_150 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_149 : BitVec 32 := 4#32
  let v206 : BitVec 32 := Scalar.muli v21 c4_i32_149
  let v207 : BitVec 32 := Scalar.addi c0_i32_150 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v208 : BitVec 32 := Scalar.muli v5 c2_i32_151
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v210 : BitVec 32 := Scalar.muli v8 c1_i32_152
  let v211 : BitVec 32 := Scalar.addi v209 v210
  v211.toNat
def k0_dev14 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v234 : BitVec 32 := Scalar.muli v2 c4_i32_172
  let v235 : BitVec 32 := Scalar.addi c0_i32_173 v234
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_10 v5
  let c2_i32_174 : BitVec 32 := 2#32
  let v236 : BitVec 32 := Scalar.muli v22 c2_i32_174
  let v237 : BitVec 32 := Scalar.addi v235 v236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v238 : BitVec 32 := Scalar.muli v8 c1_i32_175
  let v239 : BitVec 32 := Scalar.addi v237 v238
  v239.toNat
def k0_dev15 (d0 : Dev nD) : Nat :=
  let c0_i32_196 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_195 : BitVec 32 := 4#32
  let v262 : BitVec 32 := Scalar.muli v21 c4_i32_195
  let v263 : BitVec 32 := Scalar.addi c0_i32_196 v262
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v264 : BitVec 32 := Scalar.muli v5 c2_i32_197
  let v265 : BitVec 32 := Scalar.addi v263 v264
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v266 : BitVec 32 := Scalar.muli v8 c1_i32_198
  let v267 : BitVec 32 := Scalar.addi v265 v266
  v267.toNat
def k0_dev16 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v290 : BitVec 32 := Scalar.muli v2 c4_i32_218
  let v291 : BitVec 32 := Scalar.addi c0_i32_219 v290
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_10 v5
  let c2_i32_220 : BitVec 32 := 2#32
  let v292 : BitVec 32 := Scalar.muli v22 c2_i32_220
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v294 : BitVec 32 := Scalar.muli v8 c1_i32_221
  let v295 : BitVec 32 := Scalar.addi v293 v294
  v295.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x512 : Shape := ⟨2, ![1024, 512]⟩

abbrev nBuf : Space → Nat
  | .hbm => 1
  | .vmem => 0
  | .smem => 0
  | _ => 0

abbrev bufTy : (tb : Table) → Fin (tcTables nBuf tb) → BufTy
  | .hbm, ⟨0, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Lists.lean ====
/-
Separating conjunctions over lists, as equalities: what a loop over a list holds before a turn, and what of each turn
it holds after.
-/
module

public import Idealize.ShloMosaic.Lib.Pipeline.Launch

@[expose] public section

noncomputable section

namespace Cert.Lists

open Idealize.SL Idealize.SL.RA Idealize.SL.BI
open scoped Idealize.SL.BI
open Idealize.SL.BI.BIBase Idealize.SL.BI.Laws

variable {M : Type _} [URA M] {I J : Type _}

/-- Two assertions that entail each other are the same. -/
theorem ofBoth {P Q : sProp M} (h : P ⊣⊢ Q) : P = Q := equiv_iff.mp ⟨h.1, h.2⟩
theorem sepEmp (P : sProp M) : iprop(P ∗ emp) = P := equiv_iff.mp BI.sep_emp
theorem empSep (P : sProp M) : iprop(emp ∗ P) = P := equiv_iff.mp BI.emp_sep
theorem sepAssoc (P Q R : sProp M) : iprop((P ∗ Q) ∗ R) = iprop(P ∗ Q ∗ R) := equiv_iff.mp ⟨BI.sep_assoc, BI.sep_assoc'⟩
theorem sepComm (P Q : sProp M) : iprop(P ∗ Q) = iprop(Q ∗ P) := equiv_iff.mp ⟨BI.sep_comm, BI.sep_comm⟩
theorem sepLeftComm (P Q R : sProp M) : iprop(P ∗ Q ∗ R) = iprop(Q ∗ P ∗ R) := by
  rw [← sepAssoc, sepComm P Q, sepAssoc]

/-- What is held of each entry of a list. -/
def sepL (A : I → sProp M) : List I → sProp M
  | [] => iprop(emp)
  | i :: l => iprop(A i ∗ sepL A l)

theorem sepL_nil (A : I → sProp M) : sepL A [] = iprop(emp) := rfl
theorem sepL_cons (A : I → sProp M) (i : I) (l : List I) : sepL A (i :: l) = iprop(A i ∗ sepL A l) := rfl

theorem sepL_append (A : I → sProp M) (l l' : List I) : sepL A (l ++ l') = iprop(sepL A l ∗ sepL A l') := by
  induction l with
  | nil => exact (empSep _).symm
  | cons i l ih => rw [List.cons_append, sepL_cons, sepL_cons, ih, sepAssoc]

theorem sepL_map (f : I → J) (A : J → sProp M) (l : List I) : sepL A (l.map f) = sepL (fun i => A (f i)) l := by
  induction l with
  | nil => rfl
  | cons i l ih => rw [List.map_cons, sepL_cons, sepL_cons, ih]

theorem sepL_sep (A B : I → sProp M) (l : List I) : sepL (fun i => iprop(A i ∗ B i)) l = iprop(sepL A l ∗ sepL B l) := by
  induction l with
  | nil => exact (empSep _).symm
  | cons i l ih => rw [sepL_cons, sepL_cons, sepL_cons, ih, sepAssoc, sepAssoc, sepLeftComm (B i)]

theorem sepL_congr {A B : I → sProp M} (l : List I) (h : ∀ i ∈ l, A i = B i) : sepL A l = sepL B l := by
  induction l with
  | nil => rfl
  | cons i l ih =>
    rw [sepL_cons, sepL_cons, h i List.mem_cons_self, ih fun j hj => h j (List.mem_cons_of_mem i hj)]

theorem sepL_mono {A B : I → sProp M} (l : List I) (h : ∀ i, A i ⊢ B i) : sepL A l ⊢ sepL B l := by
  induction l with
  | nil => exact BIBase.Entails.refl
  | cons i l ih => rw [sepL_cons, sepL_cons]; exact BI.sep_mono (h i) ih

/-- Over a list without repetition, it is the conjunction over the entries' set. -/
theorem sepL_eq_bigSep [DecidableEq I] (A : I → sProp M) {l : List I} (h : l.Nodup) : sepL A l = bigSep l.toFinset A := by
  induction l with
  | nil => rfl
  | cons i l ih =>
    rw [List.nodup_cons] at h
    rw [sepL_cons, ih h.2, List.toFinset_cons, bigSep_insert (fun hm => h.1 (List.mem_toFinset.mp hm))]; rfl

end Cert.Lists

end
-- ==== Proof.KI.Walk.lean ====
/-
The kernel's operations as loops. The printed kernel lists its transfers and waits one by one; here each transfer
and each wait is one definition indexed by its chunk, and the kernel is shown to be those, in order.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Exch

open Cert.KernelIdeal Cert.KernelIdeal.Gen
open Idealize.ShloMosaic Idealize.ShloMosaic.TcCoe Idealize.SL.Sem

variable {F : FTy → Type} [FloatOps F]

/-! ## The buffers' pieces and the semaphores, by chunk -/

/-- The whole staged operand. -/
abbrev xM : Memref sig .tc .vmem S512x512 .f32 := Memref.whole cc0_stg0_0
/-- The whole result array. -/
abbrev oM : Memref sig .tc .hbm S1024x512 .f32 := Memref.whole main_v1
/-- The whole landing buffer of the first hop. -/
abbrev fM : Memref sig .tc .vmem S192x512 .f32 := Memref.whole cc0_scratch0

theorem inb_f (k : Fin 6) : ∀ a, (![32 * k.val, 0] : Fin 2 → Nat) a + S32x512.size a ≤ S192x512.size a := by
  revert k; decide
theorem inb_s7 (k : Fin 7) : ∀ a, (![k.val] : Fin 1 → Nat) a + S1.size a ≤ S7.size a := by revert k; decide
theorem inb_s6 (k : Fin 6) : ∀ a, (![k.val] : Fin 1 → Nat) a + S1.size a ≤ S6.size a := by revert k; decide

/-- Chunk `k` of the rows device `c` sends across the `z` axis. -/
abbrev xC (c : Dev nD) (k : Fin 6) : Memref sig .tc .vmem S32x512 .f32 :=
  xM.slice (Rect.unit (s := S512x512) (k0_off1 c (BitVec.ofNat 32 (32 * k.val))) S32x512.size (k0_off1_inb c k)) (fun _ => rfl)
/-- The rows every device sends straight into its partner's result. -/
abbrev xD : Memref sig .tc .vmem S128x512 .f32 :=
  xM.slice (Rect.unit (s := S512x512) ![384, 0] S128x512.size inb_S512x512_S128x512_384_0) (fun _ => rfl)
/-- Chunk `k` of the landing buffer. -/
abbrev fC (k : Fin 6) : Memref sig .tc .vmem S32x512 .f32 :=
  fM.slice (Rect.unit (s := S192x512) ![32 * k.val, 0] S32x512.size (inb_f k)) (fun _ => rfl)
/-- The rows of the result into which device `c` puts landed chunk `k`. -/
abbrev oC (c : Dev nD) (k : Fin 6) : Memref sig .tc .hbm S32x512 .f32 :=
  oM.slice (Rect.unit (s := S1024x512) (k0_off4 c (BitVec.ofNat 32 (32 * k.val))) S32x512.size (k0_off4_inb c k)) (fun _ => rfl)
/-- The rows of the partner's result into which device `c` sends its last 128 rows. -/
abbrev oD (c : Dev nD) : Memref sig .tc .hbm S128x512 .f32 :=
  oM.slice (Rect.unit (s := S1024x512) (k0_off2 c) S128x512.size (k0_off2_inb c)) (fun _ => rfl)
/-- The half of the result that is device `c`'s own block. -/
abbrev oH (c : Dev nD) : Memref sig .tc .hbm S512x512 .f32 :=
  oM.slice (Rect.unit (s := S1024x512) (k0_off3 c) S512x512.size (k0_off3_inb c)) (fun _ => rfl)

/-- Entry `k` of an array of seven DMA semaphores. -/
abbrev s7 (A : DmaSems sig S7) (k : Fin 7) : DmaSem sig :=
  ((A.slice (Rect.unit (s := S7) ![k.val] S1.size (inb_s7 k))).squeeze S_ squeezes_S1_S_).sem
/-- Entry `k` of an array of six DMA semaphores. -/
abbrev s6 (A : DmaSems sig S6) (k : Fin 6) : DmaSem sig :=
  ((A.slice (Rect.unit (s := S6) ![k.val] S1.size (inb_s6 k))).squeeze S_ squeezes_S1_S_).sem

/-- The barrier semaphore. -/
abbrev barS : Sem sig := (SemArray.scalar (sig.barrier 0 rfl) : Sems sig S_).sem
abbrev zsS (k : Fin 7) : DmaSem sig := s7 cc0_scratch1 k
abbrev zrS (k : Fin 7) : DmaSem sig := s7 cc0_scratch2 k
abbrev fsS (k : Fin 6) : DmaSem sig := s6 cc0_scratch3 k
abbrev frS (k : Fin 6) : DmaSem sig := s6 cc0_scratch4 k
abbrev lcS (k : Fin 6) : DmaSem sig := s6 cc0_scratch5 k
abbrev hS : DmaSem sig := cc0_scratch6.sem

/-- The device the kernel addresses chunk `k` to on the first hop. -/
abbrev zDev (c : Dev nD) (k : Fin 6) : Dev nD :=
  ![⟨k0_dev4 c, k0_dev4_lt c⟩, ⟨k0_dev5 c, k0_dev5_lt c⟩, ⟨k0_dev6 c, k0_dev6_lt c⟩, ⟨k0_dev7 c, k0_dev7_lt c⟩,
    ⟨k0_dev8 c, k0_dev8_lt c⟩, ⟨k0_dev9 c, k0_dev9_lt c⟩] k
/-- The device the kernel forwards chunk `k` to. -/
abbrev fDev (c : Dev nD) (k : Fin 6) : Dev nD :=
  ![⟨k0_dev11 c, k0_dev11_lt c⟩, ⟨k0_dev12 c, k0_dev12_lt c⟩, ⟨k0_dev13 c, k0_dev13_lt c⟩, ⟨k0_dev14 c, k0_dev14_lt c⟩,
    ⟨k0_dev15 c, k0_dev15_lt c⟩, ⟨k0_dev16 c, k0_dev16_lt c⟩] k
/-- The device the kernel's barrier signal `d` goes to. -/
abbrev bDev (c : Dev nD) (d : Fin 3) : Dev nD :=
  ![⟨k0_dev1 c, k0_dev1_lt c⟩, ⟨k0_dev2 c, k0_dev2_lt c⟩, ⟨k0_dev3 c, k0_dev3_lt c⟩] d

/-! ## The operations -/

abbrev Pr (F : FTy → Type) : Type 1 := Prog (TpuEff nD τ sig (Elt F) Λ₀ .tc) PUnit

/-- A program for each entry of a list, run in the list's order. -/
def seqL {α : Type} (p : α → Pr F) : List α → Pr F
  | [] => .ret ⟨⟩
  | a :: l => p a >>= fun _ => seqL p l

/-- The first hop of chunk `k`. -/
def zSend (c : Dev nD) (k : Fin 6) : Pr F :=
  .lift (.enqueueDma (xC c k) (.remote (Dev.tc (zDev c k)) (fC k) (.dma (zsS k.castSucc))) (.dma (zrS k.castSucc))
    (View.wordExact_bits rfl) (View.wordExact_bits rfl) ⟨⟨rfl, Or.inl rfl⟩, trivial⟩)
/-- The rows sent straight into the partner's result. -/
def dSend (c : Dev nD) : Pr F :=
  .lift (.enqueueDma xD (.remote (Dev.tc (⟨k0_dev10 c, k0_dev10_lt c⟩ : Dev nD)) (oD c) (.dma (zsS 6))) (.dma (zrS 6))
    (View.wordExact_bits rfl) (View.wordExact_bits rfl) ⟨⟨rfl, Or.inl rfl⟩, trivial⟩)
/-- The device's own block, copied into its result. -/
def hCopy (c : Dev nD) : Pr F :=
  .lift (.enqueueDma xM (.here (oH c)) (.dma hS) (Memref.isWhole_whole _).wordExact (View.wordExact_bits rfl) ⟨Or.inl rfl, trivial⟩)
/-- The wait for chunk `k` to land. -/
def zrWait (c : Dev nD) (k : Fin 6) : Pr F :=
  .lift (.waitDma2 (zrS k.castSucc) (xC c k) (fC k) (View.wordExact_bits rfl) (View.wordExact_bits rfl))
/-- Landed chunk `k` forwarded to a neighbour's result. -/
def fSend (c : Dev nD) (k : Fin 6) : Pr F :=
  .lift (.enqueueDma (fC k) (.remote (Dev.tc (fDev c k)) (oC c k) (.dma (fsS k))) (.dma (frS k))
    (View.wordExact_bits rfl) (View.wordExact_bits rfl) ⟨⟨rfl, Or.inl rfl⟩, trivial⟩)
/-- Landed chunk `k` copied into the device's own result. -/
def lCopy (c : Dev nD) (k : Fin 6) : Pr F :=
  .lift (.enqueueDma (fC k) (.here (oC c k)) (.dma (lcS k)) (View.wordExact_bits rfl) (View.wordExact_bits rfl) ⟨Or.inl rfl, trivial⟩)
/-- One turn of the forwarding loop. -/
def fTurn (c : Dev nD) (k : Fin 6) : Pr F := do zrWait c k; fSend c k; lCopy c k
def zsWait (c : Dev nD) (k : Fin 6) : Pr F :=
  .lift (.waitDma2 (zsS k.castSucc) (fC k) (xC c k) (View.wordExact_bits rfl) (View.wordExact_bits rfl))
def dsWait (c : Dev nD) : Pr F :=
  .lift (.waitDma2 (zsS 6) (oD c) xD (View.wordExact_bits rfl) (View.wordExact_bits rfl))
def drWait (c : Dev nD) : Pr F :=
  .lift (.waitDma2 (zrS 6) xD (oD c) (View.wordExact_bits rfl) (View.wordExact_bits rfl))
def fsWait (c : Dev nD) (k : Fin 6) : Pr F :=
  .lift (.waitDma2 (fsS k) (oC c k) (fC k) (View.wordExact_bits rfl) (View.wordExact_bits rfl))
def frWait (c : Dev nD) (k : Fin 6) : Pr F :=
  .lift (.waitDma2 (frS k) (fC k) (oC c k) (View.wordExact_bits rfl) (View.wordExact_bits rfl))
/-- One turn of the loop that waits for the forwards. -/
def wTurn (c : Dev nD) (k : Fin 6) : Pr F := do fsWait c k; frWait c k
def lcWait (c : Dev nD) (k : Fin 6) : Pr F :=
  .lift (.waitDma2 (lcS k) (fC k) (oC c k) (View.wordExact_bits rfl) (View.wordExact_bits rfl))
def hWait (c : Dev nD) : Pr F :=
  .lift (.waitDma2 hS xM (oH c) (Memref.isWhole_whole _).wordExact (View.wordExact_bits rfl))
/-- The barrier signal `d`. -/
def bSig (c : Dev nD) (d : Fin 3) : Pr F := semSignalWord (bDev c d) barS 1#32
def bWait : Pr F := semWaitWord barS 3#32

/-- The six chunks, in order. -/
abbrev six : List (Fin 6) := [0, 1, 2, 3, 4, 5]

/-- The kernel after it has read its device's number. -/
def walk (c : Dev nD) : Pr F := do
  seqL (bSig c) [0, 1, 2]
  bWait
  seqL (zSend c) six
  dSend c
  hCopy c
  seqL (fTurn c) six
  seqL (zsWait c) six
  dsWait c
  drWait c
  seqL (wTurn c) six
  seqL (lcWait c) six
  hWait c

set_option maxRecDepth 65536 in
/-- The printed kernel reads its device's number and then runs `walk`. -/
theorem body_eq (h0 : xM.IsWhole) (h1 : oM.IsWhole) (h2 : fM.IsWhole) :
    cc0_body (F := F) xM h0 oM h1 fM h2 cc0_scratch1 cc0_scratch2 cc0_scratch3 cc0_scratch4 cc0_scratch5 cc0_scratch6
      = Prog.lift .deviceId >>= fun c => walk c := rfl

end Cert.KernelIdeal.Exch

end
-- ==== Proof.KI.Mesh.lean ====
/-
The mesh and the arrays. Each device's three neighbours; the pieces of the staged operand, the landing buffer and
the result array as runs of rows; what the landing buffer and the result hold at the end; and what each transfer
writes, in those terms.
-/
module

public import proofs.«01_k».proof.Proof.KI.Walk
public import Idealize.ShloMosaic.Lib.Pipeline.Launch
public import Idealize.ShloMosaic.Lib.Pipeline.Kit
public import Idealize.ShloMosaic.Lib.Tactic
public import Idealize.ShloMosaic.Lib.ValueIdxCore
public import proofs.«01_k».proof.Proof.Lists

@[expose] public section

noncomputable section

namespace Cert.KernelIdeal.Exch

open Cert.KernelIdeal Cert.KernelIdeal.Gen Cert.Lists
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## The resources: the launch library's and the exchange's, whose duties are numbered below 3 -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Neighbours -/

set_option backward.proofsInPublic true in
/-- The neighbour across the `z` axis. -/
def zn (c : Dev nD) : Dev nD := ⟨(4 * (c.val / 4) + 2 * (c.val / 2 % 2) + 1) - c.val % 2, by
  have h : c.val < 8 := c.isLt
  show _ < 8; omega⟩
set_option backward.proofsInPublic true in
/-- The neighbour across the `x` axis. -/
def xn (c : Dev nD) : Dev nD := ⟨(2 * (c.val / 2 % 2) + c.val % 2 + 4) - 4 * (c.val / 4), by
  have h : c.val < 8 := c.isLt
  show _ < 8; omega⟩
set_option backward.proofsInPublic true in
/-- The neighbour across the `y` axis. -/
def yn (c : Dev nD) : Dev nD := ⟨(4 * (c.val / 4) + c.val % 2 + 2) - 2 * (c.val / 2 % 2), by
  have h : c.val < 8 := c.isLt
  show _ < 8; omega⟩

/-- The neighbour chunk `k` is forwarded to: across `x` for even chunks, across `y` for odd ones. -/
def fn (c : Dev nD) (k : ℕ) : Dev nD := if k % 2 = 0 then xn c else yn c
/-- The neighbour barrier signal `d` goes to. -/
def bn (c : Dev nD) (d : Fin 3) : Dev nD := if d = 0 then zn c else if d = 1 then xn c else yn c

/-- The parity of a device's `x` and `y` coordinates: which 192 rows it sends first. -/
def par (c : Dev nD) : ℕ := (c.val / 4 + c.val / 2 % 2) % 2
/-- The first row of a device's own half of the result. -/
def own (c : Dev nD) : ℕ := 512 * (c.val % 2)
/-- The first row of the half it receives. -/
def rcv (c : Dev nD) : ℕ := 512 * (1 - c.val % 2)

theorem zn_zn (c : Dev nD) : zn (zn c) = c := by revert c; decide
theorem fn_fn (c : Dev nD) (k : ℕ) : fn (fn c k) k = c := by
  unfold fn; split <;> (revert c; decide)
theorem bn_bn (c : Dev nD) (d : Fin 3) : bn (bn c d) d = c := by revert c d; decide
theorem par_zn (c : Dev nD) : par (zn c) = par c := by revert c; decide
theorem par_fn (c : Dev nD) (k : ℕ) : par (fn c k) = 1 - par c := by
  unfold fn; split <;> (revert c; decide)
theorem rcv_zn (c : Dev nD) : rcv (zn c) = own c := by revert c; decide
theorem rcv_fn (c : Dev nD) (k : ℕ) : rcv (fn c k) = rcv c := by
  unfold fn; split <;> (revert c; decide)
theorem par_lt (c : Dev nD) : par c = 0 ∨ par c = 1 := by revert c; decide
theorem own_rcv (c : Dev nD) : (own c = 0 ∧ rcv c = 512 ∧ c.val % 2 = 0) ∨ (own c = 512 ∧ rcv c = 0 ∧ c.val % 2 = 1) := by
  revert c; decide

theorem zDev_eq (c : Dev nD) (k : Fin 6) : zDev c k = zn c := by revert c k; decide +kernel
theorem dDev_eq (c : Dev nD) : (⟨k0_dev10 c, k0_dev10_lt c⟩ : Dev nD) = zn c := by revert c; decide +kernel
theorem fDev_eq (c : Dev nD) (k : Fin 6) : fDev c k = fn c k.val := by revert c k; decide +kernel
theorem bDev_eq (c : Dev nD) (d : Fin 3) : bDev c d = bn c d := by revert c d; decide +kernel

/-! ## Runs of rows -/

/-- Rows `lo`, …, `lo + n - 1` of an array of `R` rows. -/
def rows (R lo n : ℕ) : Finset (⟨2, ![R, 512]⟩ : Shape).Idx :=
  Finset.univ.filter fun i => lo ≤ (i 0).val ∧ (i 0).val < lo + n

theorem mem_rows {R lo n : ℕ} {i : (⟨2, ![R, 512]⟩ : Shape).Idx} : i ∈ rows R lo n ↔ lo ≤ (i 0).val ∧ (i 0).val < lo + n := by
  unfold rows; rw [Finset.mem_filter]; exact and_iff_right (Finset.mem_univ _)

/-- A run of rows is its first `a` and the rest. -/
theorem rows_add (R lo a b : ℕ) : rows R lo (a + b) = rows R lo a ∪ rows R (lo + a) b := by
  ext i; rw [Finset.mem_union, mem_rows, mem_rows, mem_rows]; omega
theorem rows_disj (R lo a b : ℕ) : Disjoint (rows R lo a) (rows R (lo + a) b) :=
  Finset.disjoint_left.mpr fun i h h' => by rw [mem_rows] at h h'; omega
theorem rows_all (R : ℕ) : rows R 0 R = Finset.univ := by
  ext i; rw [mem_rows]
  have : (i 0).val < R := (i 0).isLt
  exact ⟨fun _ => Finset.mem_univ _, fun _ => ⟨Nat.zero_le _, by omega⟩⟩

/-- A block of whole rows, as a rectangle, is a run of rows. -/
theorem rows_rect {R : ℕ} {off size : Fin 2 → ℕ} {inb} {lo n : ℕ} (h : off = ![lo, 0]) (hs : size = ![n, 512]) :
    (Rect.unit (s := (⟨2, ![R, 512]⟩ : Shape)) off size inb).set = rows R lo n := by
  subst h; subst hs
  ext i
  rw [Rect.mem_set_unit, mem_rows]
  have h1 : (i 1).val < 512 := (i 1).isLt
  constructor
  · intro h; exact h 0
  · intro h a
    match a with
    | ⟨0, _⟩ => exact h
    | ⟨1, _⟩ => exact ⟨Nat.zero_le _, by show (i 1).val < 0 + 512; omega⟩

theorem off1_eq (c : Dev nD) (k : Fin 6) : k0_off1 c (BitVec.ofNat 32 (32 * k.val)) = ![192 * par c + 32 * k.val, 0] := by
  revert c k; decide +kernel
theorem off2_eq (c : Dev nD) : k0_off2 c = ![own c + 384, 0] := by revert c; decide +kernel
theorem off3_eq (c : Dev nD) : k0_off3 c = ![own c, 0] := by revert c; decide +kernel
theorem off4_eq (c : Dev nD) (k : Fin 6) : k0_off4 c (BitVec.ofNat 32 (32 * k.val)) = ![rcv c + 192 * par c + 32 * k.val, 0] := by
  revert c k; decide +kernel

theorem xC_set (c : Dev nD) (k : Fin 6) : (xC c k).view.set = rows 512 (192 * par c + 32 * k.val) 32 :=
  (View.set_slice_whole cc0_stg0_0 _).trans (rows_rect (off1_eq c k) rfl)
theorem xD_set : xD.view.set = rows 512 384 128 := (View.set_slice_whole cc0_stg0_0 _).trans (rows_rect rfl rfl)
theorem xM_set : xM.view.set = rows 512 0 512 := (View.set_whole cc0_stg0_0).trans (rows_all 512).symm
theorem fC_set (k : Fin 6) : (fC k).view.set = rows 192 (32 * k.val) 32 :=
  (View.set_slice_whole cc0_scratch0 _).trans (rows_rect rfl rfl)
theorem oC_set (c : Dev nD) (k : Fin 6) : (oC c k).view.set = rows 1024 (rcv c + 192 * par c + 32 * k.val) 32 :=
  (View.set_slice_whole main_v1 _).trans (rows_rect (off4_eq c k) rfl)
theorem oD_set (c : Dev nD) : (oD c).view.set = rows 1024 (own c + 384) 128 :=
  (View.set_slice_whole main_v1 _).trans (rows_rect (off2_eq c) rfl)
theorem oH_set (c : Dev nD) : (oH c).view.set = rows 1024 (own c) 512 :=
  (View.set_slice_whole main_v1 _).trans (rows_rect (off3_eq c) rfl)

/-! ## Ownership of runs of rows -/

abbrev XBuf (F : FTy → Type) : Type := (cc0_stg0_0 : Ref sig .tc).ty.Contents (Elt F)
abbrev FBuf (F : FTy → Type) : Type := (cc0_scratch0 : Ref sig .tc).ty.Contents (Elt F)
abbrev OBuf (F : FTy → Type) : Type := (main_v1 : Ref sig .tc).ty.Contents (Elt F)

/-- Rows of device `c`'s staged operand, at share `q`. -/
def xPt (c : Dev nD) (q : PosShare TreeShare) (f : XBuf F) (lo n : ℕ) : sProp 𝕄 :=
  (xM : Memref sig .tc .vmem S512x512 .f32).view.loc (c : Thread nD τ) ↦[rows 512 lo n]{q} f
/-- Rows of device `c`'s landing buffer, at share `q`. -/
def fPt (c : Dev nD) (q : PosShare TreeShare) (f : FBuf F) (lo n : ℕ) : sProp 𝕄 :=
  (fM : Memref sig .tc .vmem S192x512 .f32).view.loc (c : Thread nD τ) ↦[rows 192 lo n]{q} f
/-- Rows of device `c`'s result array. -/
def oPt (c : Dev nD) (f : OBuf F) (lo n : ℕ) : sProp 𝕄 :=
  (oM : Memref sig .tc .hbm S1024x512 .f32).view.loc (c : Thread nD τ) ↦[rows 1024 lo n]{fullShare} f

omit [FloatOps F] in
instance xPt_storable (c : Dev nD) (q f lo n) : BI.Storable (upEmb : UEmb _ 𝕄) (xPt (F := F) c q f lo n) := by unfold xPt; infer_instance
omit [FloatOps F] in
instance fPt_storable (c : Dev nD) (q f lo n) : BI.Storable (upEmb : UEmb _ 𝕄) (fPt (F := F) c q f lo n) := by unfold fPt; infer_instance
omit [FloatOps F] in
instance oPt_storable (c : Dev nD) (f lo n) : BI.Storable (upEmb : UEmb _ 𝕄) (oPt (F := F) c f lo n) := by unfold oPt; infer_instance

omit [FloatOps F] in
theorem xPt_add (c : Dev nD) (q) (f : XBuf F) (lo a b : ℕ) : xPt c q f lo (a + b) = iprop(xPt c q f lo a ∗ xPt c q f (lo + a) b) := by
  unfold xPt; rw [rows_add]; exact ofBoth (pointsTo_union (rows_disj 512 lo a b))
omit [FloatOps F] in
theorem fPt_add (c : Dev nD) (q) (f : FBuf F) (lo a b : ℕ) : fPt c q f lo (a + b) = iprop(fPt c q f lo a ∗ fPt c q f (lo + a) b) := by
  unfold fPt; rw [rows_add]; exact ofBoth (pointsTo_union (rows_disj 192 lo a b))
omit [FloatOps F] in
theorem oPt_add (c : Dev nD) (f : OBuf F) (lo a b : ℕ) : oPt c f lo (a + b) = iprop(oPt c f lo a ∗ oPt c f (lo + a) b) := by
  unfold oPt; rw [rows_add]; exact ofBoth (pointsTo_union (rows_disj 1024 lo a b))

omit [FloatOps F] in
theorem xPt_halves (c : Dev nD) (f : XBuf F) (lo n : ℕ) :
    xPt c fullShare f lo n = iprop(xPt c fullShare.left f lo n ∗ xPt c fullShare.right f lo n) := by
  unfold xPt; exact ofBoth (pointsTo_share (PosShare.mem_left_op_right fullShare))
omit [FloatOps F] in
theorem fPt_halves (c : Dev nD) (f : FBuf F) (lo n : ℕ) :
    fPt c fullShare f lo n = iprop(fPt c fullShare.left f lo n ∗ fPt c fullShare.right f lo n) := by
  unfold fPt; exact ofBoth (pointsTo_share (PosShare.mem_left_op_right fullShare))

omit [FloatOps F] in
theorem xPt_all (c : Dev nD) (q) (f : XBuf F) : xPt c q f 0 512 = (((c : Thread nD τ).loc cc0_stg0_0) ↦{q} f : sProp 𝕄) := by
  unfold xPt; rw [rows_all 512]
omit [FloatOps F] in
theorem fPt_all (c : Dev nD) (q) (f : FBuf F) : fPt c q f 0 192 = (((c : Thread nD τ).loc cc0_scratch0) ↦{q} f : sProp 𝕄) := by
  unfold fPt; rw [rows_all 192]
omit [FloatOps F] in
theorem oPt_all (c : Dev nD) (f : OBuf F) : oPt c f 0 1024 = (((c : Thread nD τ).loc main_v1) ↦{fullShare} f : sProp 𝕄) := by
  unfold oPt; rw [rows_all 1024]

omit [FloatOps F] in
/-- Six consecutive runs of 32 rows are one of 192. -/
theorem chunks (A : ℕ → ℕ → sProp 𝕄) (h : ∀ lo a b, A lo (a + b) = iprop(A lo a ∗ A (lo + a) b)) (lo : ℕ) :
    A lo 192 = sepL (fun k : Fin 6 => A (lo + 32 * k.val) 32) six := by
  have e := h lo 32 160
  rw [h (lo + 32) 32 128, h (lo + 32 + 32) 32 96, h (lo + 32 + 32 + 32) 32 64, h (lo + 32 + 32 + 32 + 32) 32 32] at e
  refine e.trans ?_
  show _ = sepL _ [0, 1, 2, 3, 4, 5]
  rw [sepL_cons, sepL_cons, sepL_cons, sepL_cons, sepL_cons, sepL_cons, sepL_nil, sepEmp]
  rfl

/-! ## Contents -/

/-- Device `c`'s block of the operand, as the launch stages it. -/
def xstg (c : Dev nD) : XBuf F := (win0_0.blk (0 : Fin 1)).view.read (Elt F) ((s₀ m ρ).mem ((c : Thread nD τ).loc main_arg0))

/-- Row `r` (counted modulo 512) of device `c`'s block. -/
def xrow (c : Dev nD) (r : ℕ) (j : Fin 512) : Elt F .f32 :=
  xstg m ρ c (ix2 (n0 := 512) (n1 := 512) ⟨r % 512, Nat.mod_lt _ (by decide)⟩ j)

/-- What device `c`'s landing buffer holds after the first hop: 192 rows of its `z` neighbour's block. -/
def FB (c : Dev nD) : FBuf F := fun i => xrow m ρ (zn c) (192 * par c + (i 0).val) (i 1)

/-- The device row `r` of device `c`'s result comes from. -/
def src (c : Dev nD) (r : ℕ) : Dev nD :=
  if r / 512 = c.val % 2 then c
  else if 384 ≤ r % 512 then zn c
  else if r % 512 / 192 = par c then zn c
  else zn (fn c (r % 512 % 192 / 32))

/-- What device `c`'s result array holds at the end. -/
def Gout (c : Dev nD) : OBuf F := fun i => xrow m ρ (src c (i 0).val) (i 0).val (i 1)

omit [FloatOps F] in
/-- A row of the staged block, read off its index. -/
theorem xrow_of (c : Dev nD) (i : (⟨2, ![512, 512]⟩ : Shape).Idx) (r : ℕ) (j : Fin 512) (h0 : (i 0).val = r % 512) (h1 : i 1 = j) :
    xstg m ρ c i = xrow m ρ c r j := by
  unfold xrow
  refine congrArg (xstg m ρ c) (funext fun a => ?_)
  match a with
  | ⟨0, _⟩ => exact Fin.ext h0
  | ⟨1, _⟩ => exact h1

omit [FloatOps F] in
/-- What a transfer leaves under its destination, when the destination is to hold `g`. -/
theorem write_eq {κ κ' : Kind} {sp sp' : Space} {s : Shape} (v : View sig κ sp s .f32) (w : View sig κ' sp' s .f32)
    (fd g : v.ty.Contents (Elt F)) (fs : w.ty.Contents (Elt F))
    (h : ∀ x, _root_.cast (congrArg (Elt F) v.elt_eq.symm) (_root_.cast (congrArg (Elt F) w.elt_eq) (fs (w.emb x))) = g (v.emb x)) :
    ∀ i ∈ v.set, v.write (Elt F) fd (w.read (Elt F) fs) Finset.univ i = g i := by
  intro i hi
  obtain ⟨x, -, rfl⟩ := Finset.mem_map.mp hi
  rw [View.write_emb_of_mem fd _ (Finset.mem_univ x), View.read_apply]
  exact h x

/-! ## What the transfers write -/

theorem src_own (c : Dev nD) (r : ℕ) (h : r / 512 = c.val % 2) : src c r = c := if_pos h
theorem src_far (c : Dev nD) (r : ℕ) (h : r / 512 ≠ c.val % 2) (h' : 384 ≤ r % 512) : src c r = zn c := by
  unfold src; rw [if_neg h, if_pos h']
theorem src_near (c : Dev nD) (r : ℕ) (h : r / 512 ≠ c.val % 2) (h' : ¬ 384 ≤ r % 512) (hp : r % 512 / 192 = par c) : src c r = zn c := by
  unfold src; rw [if_neg h, if_neg h', if_pos hp]
theorem src_hop (c : Dev nD) (r k : ℕ) (h : r / 512 ≠ c.val % 2) (h' : ¬ 384 ≤ r % 512) (hp : r % 512 / 192 ≠ par c)
    (hk : r % 512 % 192 / 32 = k) : src c r = zn (fn c k) := by
  unfold src; rw [if_neg h, if_neg h', if_neg hp, hk]

theorem fC_emb0 (k : Fin 6) (x : (⟨2, ![32, 512]⟩ : Shape).Idx) : ((fC k).view.emb x 0).val = 32 * k.val + 1 * (x 0).val := rfl
theorem xC_emb0 (c : Dev nD) (k : Fin 6) (x : (⟨2, ![32, 512]⟩ : Shape).Idx) :
    ((xC c k).view.emb x 0).val = 192 * par c + 32 * k.val + 1 * (x 0).val :=
  congrArg (· + 1 * (x 0).val) (congrFun (off1_eq c k) 0)
theorem oC_emb0 (c : Dev nD) (k : Fin 6) (x : (⟨2, ![32, 512]⟩ : Shape).Idx) :
    ((oC c k).view.emb x 0).val = rcv c + 192 * par c + 32 * k.val + 1 * (x 0).val :=
  congrArg (· + 1 * (x 0).val) (congrFun (off4_eq c k) 0)
theorem oD_emb0 (c : Dev nD) (x : (⟨2, ![128, 512]⟩ : Shape).Idx) : ((oD c).view.emb x 0).val = own c + 384 + 1 * (x 0).val :=
  congrArg (· + 1 * (x 0).val) (congrFun (off2_eq c) 0)
theorem oH_emb0 (c : Dev nD) (x : (⟨2, ![512, 512]⟩ : Shape).Idx) : ((oH c).view.emb x 0).val = own c + 1 * (x 0).val :=
  congrArg (· + 1 * (x 0).val) (congrFun (off3_eq c) 0)

theorem xC_emb1 (c : Dev nD) (k : Fin 6) (x : (⟨2, ![32, 512]⟩ : Shape).Idx) : (xC c k).view.emb x 1 = x 1 :=
  Fin.ext (((congrArg (· + 1 * (x 1).val) (congrFun (off1_eq c k) 1))).trans (by show 0 + 1 * _ = _; omega))
theorem oC_emb1 (c : Dev nD) (k : Fin 6) (x : (⟨2, ![32, 512]⟩ : Shape).Idx) : (oC c k).view.emb x 1 = x 1 :=
  Fin.ext (((congrArg (· + 1 * (x 1).val) (congrFun (off4_eq c k) 1))).trans (by show 0 + 1 * _ = _; omega))
theorem oD_emb1 (c : Dev nD) (x : (⟨2, ![128, 512]⟩ : Shape).Idx) : (oD c).view.emb x 1 = x 1 :=
  Fin.ext (((congrArg (· + 1 * (x 1).val) (congrFun (off2_eq c) 1))).trans (by show 0 + 1 * _ = _; omega))
theorem oH_emb1 (c : Dev nD) (x : (⟨2, ![512, 512]⟩ : Shape).Idx) : (oH c).view.emb x 1 = x 1 :=
  Fin.ext (((congrArg (· + 1 * (x 1).val) (congrFun (off3_eq c) 1))).trans (by show 0 + 1 * _ = _; omega))
theorem fC_emb1 (k : Fin 6) (x : (⟨2, ![32, 512]⟩ : Shape).Idx) : (fC k).view.emb x 1 = x 1 :=
  Fin.ext (by show 0 + 1 * (x 1).val = _; omega)
theorem xD_emb1 (x : (⟨2, ![128, 512]⟩ : Shape).Idx) : (xD).view.emb x 1 = x 1 :=
  Fin.ext (by show 0 + 1 * (x 1).val = _; omega)

omit [FloatOps F] in
theorem xrow_congr (c c' : Dev nD) (r r' : ℕ) (j j' : Fin 512) (hc : c = c') (hr : r % 512 = r' % 512) (hj : j = j') :
    xrow m ρ c r j = xrow m ρ c' r' j' := by
  subst hc; subst hj
  unfold xrow
  exact congrArg (xstg m ρ c) (congrArg (fun a : Fin 512 => ix2 (n0 := 512) (n1 := 512) a j) (Fin.ext hr))

omit [FloatOps F] in
/-- The first hop's chunk `k`, sent by `c`, leaves its rows in the `z` neighbour's landing buffer. -/
theorem z_lands (c : Dev nD) (k : Fin 6) (fd : FBuf F) :
    ∀ i ∈ (fC k).view.set, (fC k).view.write (Elt F) fd ((xC c k).view.read (Elt F) (xstg m ρ c)) Finset.univ i = FB m ρ (zn c) i :=
  write_eq (fC k).view (xC c k).view fd _ _ fun x => by
    have hx : (x 0).val < 32 := (x 0).isLt
    have hp := par_lt c
    have hk := k.isLt
    refine (xrow_of m ρ c ((xC c k).view.emb x) (192 * par c + 32 * k.val + (x 0).val) (x 1) ?_ (xC_emb1 c k x)).trans ?_
    · rw [xC_emb0]; omega
    · unfold FB
      refine xrow_congr m ρ _ _ _ _ _ _ (zn_zn c).symm ?_ (fC_emb1 k x).symm
      rw [fC_emb0, par_zn]; omega

omit [FloatOps F] in
/-- The direct copy sent by `c` leaves its last rows in the `z` neighbour's result. -/
theorem d_lands (c : Dev nD) (fd : OBuf F) :
    ∀ i ∈ (oD c).view.set, (oD c).view.write (Elt F) fd (xD.view.read (Elt F) (xstg m ρ c)) Finset.univ i = Gout m ρ (zn c) i :=
  write_eq (oD c).view xD.view fd _ _ fun x => by
    have hx : (x 0).val < 128 := (x 0).isLt
    have ho := own_rcv c
    have hz := own_rcv (zn c)
    have he := rcv_zn c
    refine (xrow_of m ρ c (xD.view.emb x) (384 + (x 0).val) (x 1) ?_ (xD_emb1 x)).trans ?_
    · show 384 + 1 * (x 0).val = _; omega
    · unfold Gout
      refine xrow_congr m ρ _ _ _ _ _ _ ?_ ?_ (oD_emb1 c x).symm
      · rw [oD_emb0, src_far _ _ (by omega) (by omega), zn_zn]
      · rw [oD_emb0]; omega

omit [FloatOps F] in
/-- Chunk `k` of `c`'s landing buffer, forwarded, leaves its rows in the receiving neighbour's result. -/
theorem f_lands (c : Dev nD) (k : Fin 6) (fd : OBuf F) :
    ∀ i ∈ (oC c k).view.set, (oC c k).view.write (Elt F) fd ((fC k).view.read (Elt F) (FB m ρ c)) Finset.univ i = Gout m ρ (fn c k.val) i :=
  write_eq (oC c k).view (fC k).view fd _ _ fun x => by
    have hx : (x 0).val < 32 := (x 0).isLt
    have hk := k.isLt
    have ho := own_rcv c
    have hf := own_rcv (fn c k.val)
    have he := rcv_fn c k.val
    have hp := par_lt c
    have hq := par_fn c k.val
    show FB m ρ c ((fC k).view.emb x) = _
    unfold Gout FB
    refine xrow_congr m ρ _ _ _ _ _ _ ?_ ?_ ((fC_emb1 k x).trans (oC_emb1 c k x).symm)
    · rw [oC_emb0, src_hop _ _ k.val (by omega) (by omega) (by omega) (by omega), fn_fn]
    · rw [oC_emb0, fC_emb0]; omega

omit [FloatOps F] in
/-- Chunk `k` of `c`'s landing buffer, copied locally, leaves its rows in `c`'s own result. -/
theorem l_lands (c : Dev nD) (k : Fin 6) (fd : OBuf F) :
    ∀ i ∈ (oC c k).view.set, (oC c k).view.write (Elt F) fd ((fC k).view.read (Elt F) (FB m ρ c)) Finset.univ i = Gout m ρ c i :=
  write_eq (oC c k).view (fC k).view fd _ _ fun x => by
    have hx : (x 0).val < 32 := (x 0).isLt
    have hk := k.isLt
    have ho := own_rcv c
    have hp := par_lt c
    show FB m ρ c ((fC k).view.emb x) = _
    unfold Gout FB
    refine xrow_congr m ρ _ _ _ _ _ _ ?_ ?_ ((fC_emb1 k x).trans (oC_emb1 c k x).symm)
    · rw [oC_emb0, src_near _ _ (by omega) (by omega) (by omega)]
    · rw [oC_emb0, fC_emb0]; omega

omit [FloatOps F] in
/-- The local copy of the whole block leaves it in its own half of the result. -/
theorem h_lands (c : Dev nD) (fd : OBuf F) :
    ∀ i ∈ (oH c).view.set, (oH c).view.write (Elt F) fd (xM.view.read (Elt F) (xstg m ρ c)) Finset.univ i = Gout m ρ c i :=
  write_eq (oH c).view xM.view fd _ _ fun x => by
    have hx : (x 0).val < 512 := (x 0).isLt
    have ho := own_rcv c
    refine (xrow_of m ρ c (xM.view.emb x) (x 0).val (x 1) ?_ rfl).trans ?_
    · show (x 0).val = _; omega
    · unfold Gout
      refine xrow_congr m ρ _ _ _ _ _ _ ?_ ?_ (oH_emb1 c x).symm
      · rw [oH_emb0, src_own _ _ (by omega)]
      · rw [oH_emb0]; omega

end Cert.KernelIdeal.Exch

end
-- ==== Proof.KI.Schedule.lean ====
/-
The schedule of the exchange: every semaphore has one round, and each of its credits comes with the piece of memory the
waiting device gets. Then what a device owes, in the order it pays, and the levels that order its waits.
-/
module

public import proofs.«01_k».proof.Proof.KI.Mesh

@[expose] public section

noncomputable section

namespace Cert.KernelIdeal.Exch

open Cert.KernelIdeal Cert.KernelIdeal.Gen Cert.Lists
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores by what they signal -/

/-- What a DMA semaphore signals: `st` the launch's staging; `zs`, `zr` the first hop of a chunk, sent and landed; `ds`,
    `dr` the direct rows, sent and landed; `fs`, `fr` a forwarded chunk, sent and landed; `lc` a chunk copied locally;
    `h` the own half copied. -/
inductive Slot where
  | st | zs (k : Fin 6) | ds | zr (k : Fin 6) | dr | fs (k : Fin 6) | fr (k : Fin 6) | lc (k : Fin 6) | h

/-- The slots in the semaphores' order. -/
def slots : List Slot :=
  .st :: six.map .zs ++ .ds :: six.map .zr ++ .dr :: six.map .fs ++ six.map .fr ++ six.map .lc ++ [.h]

def slotOf (q : DmaSem sig) : Slot := slots.getD q.val .st

theorem slot_zs (k : Fin 6) : slotOf (zsS k.castSucc) = .zs k := by fin_cases k <;> rfl
theorem slot_ds : slotOf (zsS 6) = .ds := rfl
theorem slot_zr (k : Fin 6) : slotOf (zrS k.castSucc) = .zr k := by fin_cases k <;> rfl
theorem slot_dr : slotOf (zrS 6) = .dr := rfl
theorem slot_fs (k : Fin 6) : slotOf (fsS k) = .fs k := by fin_cases k <;> rfl
theorem slot_fr (k : Fin 6) : slotOf (frS k) = .fr k := by fin_cases k <;> rfl
theorem slot_lc (k : Fin 6) : slotOf (lcS k) = .lc k := by fin_cases k <;> rfl
theorem slot_h : slotOf hS = .h := rfl

/-- Every DMA semaphore of the kernel's own, by what it signals. -/
abbrev dlist : List (DmaSem sig) :=
  six.map (fun k => zsS k.castSucc) ++ [zsS 6] ++ six.map (fun k => zrS k.castSucc) ++ [zrS 6]
    ++ six.map fsS ++ six.map frS ++ six.map lcS ++ [hS]

abbrev dcell (c : Dev nD) (q : DmaSem sig) : GSem nD τ sig := ((c : Thread nD τ), .dma q)
abbrev bcell (c : Dev nD) : GSem nD τ sig := ((c : Thread nD τ), .reg barS)

/-! ## Amounts -/

abbrev N32 : ℕ := (fC 0).view.dmaCredit
abbrev N128 : ℕ := xD.view.dmaCredit
abbrev N512 : ℕ := xM.view.dmaCredit

/-- The credit of one transfer that signals a slot. -/
def amtS : Slot → ℕ
  | .ds | .dr => N128
  | .h => N512
  | _ => N32
def amt (q : DmaSem sig) : ℕ := amtS (slotOf q)

theorem amt_pos (q : DmaSem sig) : 0 < amt q := by
  unfold amt amtS
  split
  · exact View.dmaCredit_pos _ (by decide)
  · exact View.dmaCredit_pos _ (by decide)
  · exact View.dmaCredit_pos _ (by decide)
  · exact View.dmaCredit_pos _ (by decide)

/-! ## Payloads -/

/-- Chunk `k` of the rows of `n`'s result that a neighbour forwards to it, holding anything. -/
def gPt (n : Dev nD) (k : Fin 6) : sProp 𝕄 := iprop(∃ f, oPt (F := F) n f (rcv n + 192 * (1 - par n) + 32 * k.val) 32)

/-- What device `n` hands with its barrier signal `d`: to its `z` neighbour its landing buffer and the rows of its
    result sent directly; to its `x` and `y` neighbours the chunks of its result they forward. -/
def hand (n : Dev nD) (d : Fin 3) : sProp 𝕄 :=
  if d = 0 then iprop((∃ f, fPt (F := F) n fullShare f 0 192) ∗ ∃ f, oPt (F := F) n f (rcv n + 384) 128)
  else if d = 1 then sepL (gPt (F := F) n) [0, 2, 4]
  else sepL (gPt (F := F) n) [1, 3, 5]

/-- What a slot's credit brings the waiting device. -/
def payS (c : Dev nD) : Slot → sProp 𝕄
  | .st => iprop(emp)
  | .zs k => xPt c fullShare.left (xstg m ρ c) (192 * par c + 32 * k.val) 32
  | .ds => xPt c fullShare.left (xstg m ρ c) 384 128
  | .zr k => fPt c fullShare (FB m ρ c) (32 * k.val) 32
  | .dr => oPt c (Gout m ρ c) (rcv c + 384) 128
  | .fs k => fPt c fullShare.left (FB m ρ c) (32 * k.val) 32
  | .fr k => oPt c (Gout m ρ c) (rcv c + 192 * (1 - par c) + 32 * k.val) 32
  | .lc k => iprop(oPt c (Gout m ρ c) (rcv c + 192 * par c + 32 * k.val) 32 ∗ fPt c fullShare.right (FB m ρ c) (32 * k.val) 32)
  | .h => iprop(oPt c (Gout m ρ c) (own c) 512 ∗ xPt c fullShare.right (xstg m ρ c) 0 512)

omit [FloatOps F] in
instance gPt_storable (n : Dev nD) (k : Fin 6) : BI.Storable (upEmb : UEmb _ 𝕄) (gPt (F := F) n k) := by
  unfold gPt; infer_instance
omit [FloatOps F] in
theorem sepL_storable {I : Type} (A : I → sProp 𝕄) (h : ∀ i, BI.Storable (upEmb : UEmb _ 𝕄) (A i)) (l : List I) :
    BI.Storable (upEmb : UEmb _ 𝕄) (sepL A l) := by
  induction l with
  | nil => unfold sepL; infer_instance
  | cons i l ih => rw [sepL_cons]; haveI := h i; infer_instance
omit [FloatOps F] in
instance hand_storable (n : Dev nD) (d : Fin 3) : BI.Storable (upEmb : UEmb _ 𝕄) (hand (F := F) n d) := by
  unfold hand
  split
  · infer_instance
  · split <;> exact sepL_storable _ (fun k => inferInstance) _
omit [FloatOps F] in
instance payS_storable (c : Dev nD) (s : Slot) : BI.Storable (upEmb : UEmb _ 𝕄) (payS (F := F) m ρ c s) := by
  cases s <;> (unfold payS; infer_instance)

/-- One round, round 0: a barrier semaphore has a duty of one unit for each neighbour, a DMA semaphore duty `0` of its
    transfer's credit. -/
def Rd : Rounds.Schedule (GSem nD τ sig) (Fin 3) 𝕄 where
  duties g r := if r = 0 then (match g.2 with | .reg _ => Finset.univ | .dma _ => {0}) else ∅
  unitless _ := False
  amount g _ _ := match g.2 with | .reg _ => 1 | .dma q => amt q
  payload g _ d := match g.2 with | .reg _ => hand (bn g.1.1 d) d | .dma q => payS m ρ g.1.1 (slotOf q)
  amount_pos g _ _ _ := by
    obtain ⟨t, sm⟩ := g
    cases sm with
    | reg _ => exact Nat.one_pos
    | dma q => exact amt_pos q

omit [FloatOps F] in
instance Rd_payload_storable (g : GSem nD τ sig) (r : ℕ) (d : Fin 3) : BI.Storable (upEmb : UEmb _ 𝕄) ((Rd (F := F) m ρ).payload g r d) := by
  obtain ⟨t, sm⟩ := g
  cases sm with
  | reg _ => exact hand_storable _ _
  | dma q => exact payS_storable m ρ _ _

section Sched
variable (c : Dev nD) (q : DmaSem sig)

omit [FloatOps F] in
theorem duties_bar : (Rd (F := F) m ρ).duties (bcell c) 0 = Finset.univ := rfl
omit [FloatOps F] in
theorem duties_dma : (Rd (F := F) m ρ).duties (dcell c q) 0 = {0} := rfl
omit [FloatOps F] in
theorem duties_later (g : GSem nD τ sig) : ∀ r, 1 ≤ r → (Rd (F := F) m ρ).duties g r = ∅ := fun r hr => if_neg (by omega)
omit [FloatOps F] in
theorem amount_bar (d : Fin 3) : (Rd (F := F) m ρ).amount (bcell c) 0 d = 1 := rfl
omit [FloatOps F] in
theorem amount_dma (d : Fin 3) : (Rd (F := F) m ρ).amount (dcell c q) 0 d = amt q := rfl
omit [FloatOps F] in
theorem payload_bar (d : Fin 3) : (Rd (F := F) m ρ).payload (bcell c) 0 d = hand (bn c d) d := rfl
omit [FloatOps F] in
theorem payload_dma (d : Fin 3) : (Rd (F := F) m ρ).payload (dcell c q) 0 d = payS m ρ c (slotOf q) := rfl
omit [FloatOps F] in
theorem expect_bar : (Rd (F := F) m ρ).expect (bcell c) 0 = 3 := rfl
omit [FloatOps F] in
theorem expect_dma : (Rd (F := F) m ρ).expect (dcell c q) 0 = amt q := by
  unfold Schedule.expect Schedule.amountOf; rw [duties_dma, Finset.sum_singleton, amount_dma]

omit [FloatOps F] in
/-- All that the three barrier signals bring. -/
theorem rest_bar : bigSep ((Rd (F := F) m ρ).duties (bcell c) 0 \ ∅) (fun d => (Rd (F := F) m ρ).payload (bcell c) 0 d)
    = sepL (fun d => hand (F := F) (bn c d) d) [0, 1, 2] := by
  rw [Finset.sdiff_empty, duties_bar, sepL_eq_bigSep _ (by decide)]; rfl
omit [FloatOps F] in
theorem rest_dma : bigSep ((Rd (F := F) m ρ).duties (dcell c q) 0 \ ∅) (fun d => (Rd (F := F) m ρ).payload (dcell c q) 0 d)
    = payS m ρ c (slotOf q) := by
  rw [Finset.sdiff_empty, duties_dma, bigSep_singleton, payload_dma]

end Sched

/-! ## What a device owes, and the levels -/

/-- The tallies of a list of debts, the first to be paid at the front. -/
def owedL : List (GSem nD τ sig × ℕ) → CellTallies nD τ sig Unit
  | [] => 0
  | x :: l => owedL l + tallyAt x.1 () x.2

theorem owedL_cons (g : GSem nD τ sig) (n : ℕ) (l : List (GSem nD τ sig × ℕ)) : owedL ((g, n) :: l) = owedL l + tallyAt g () n := rfl

/-- The device on which the transfer of device `c` that signals a slot signals it. -/
def prS (c : Dev nD) : Slot → Dev nD
  | .zr _ | .dr => zn c
  | .fr k => fn c k.val
  | _ => c
def pr (c : Dev nD) (q : DmaSem sig) : Dev nD := prS c (slotOf q)

theorem pr_pr (c : Dev nD) (q : DmaSem sig) : pr (pr c q) q = c := by
  unfold pr
  cases slotOf q <;> first | exact zn_zn c | exact fn_fn c _ | rfl

/-- The debts by kind: barrier signals, the first hop, the direct rows, the forwards. -/
abbrev debtB (c : Dev nD) (d : Fin 3) : GSem nD τ sig × ℕ := (bcell (bn c d), 1)
abbrev debtZ (c : Dev nD) (k : Fin 6) : GSem nD τ sig × ℕ := (dcell (zn c) (zrS k.castSucc), N32)
abbrev debtD (c : Dev nD) : GSem nD τ sig × ℕ := (dcell (zn c) (zrS 6), N128)
abbrev debtF (c : Dev nD) (k : Fin 6) : GSem nD τ sig × ℕ := (dcell (fn c k.val) (frS k), N32)

/-- All the debts of device `c` in the order it pays them. -/
abbrev debts (c : Dev nD) : List (GSem nD τ sig × ℕ) :=
  [0, 1, 2].map (debtB c) ++ (six.map (debtZ c) ++ ([debtD c] ++ six.map (debtF c)))

/-- Barrier semaphores at 1, arrivals of the first hop at 2, of the forwards at 3, the rest at 0. -/
def lvS : Slot → ℕ
  | .zr _ | .dr => 2
  | .fr _ => 3
  | _ => 0
def lv (g : GSem nD τ sig) (_ : Unit) : ℕ := match g.2 with | .reg _ => 1 | .dma q => lvS (slotOf q)
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

/-- Every debt of a list is to a semaphore above level `n`. -/
def above (n : ℕ) (l : List (GSem nD τ sig × ℕ)) : Prop := ∀ x ∈ l, x.1.1.2 = .tc ∧ n < lv x.1 ()

theorem above_append {n : ℕ} {l l' : List (GSem nD τ sig × ℕ)} : above n (l ++ l') ↔ above n l ∧ above n l' :=
  List.forall_mem_append
theorem above_nil (n : ℕ) : above n [] := fun x h => absurd h List.not_mem_nil
theorem above_map {I : Type} {n : ℕ} {l : List I} {f : I → GSem nD τ sig × ℕ} (h : ∀ i, (f i).1.1.2 = .tc ∧ n < lv (f i).1 ()) :
    above n (l.map f) := fun x hx => by
  obtain ⟨i, -, rfl⟩ := List.mem_map.mp hx; exact h i
theorem above_F (c : Dev nD) (l : List (Fin 6)) : above 2 (l.map (debtF c)) :=
  above_map fun k => ⟨rfl, by show 2 < lvS (slotOf (frS k)); rw [slot_fr]; exact (by decide : 2 < 3)⟩
theorem above_Z (c : Dev nD) (l : List (Fin 6)) : above 1 (l.map (debtZ c)) :=
  above_map fun k => ⟨rfl, by show 1 < lvS (slotOf (zrS k.castSucc)); rw [slot_zr]; exact (by decide : 1 < 2)⟩
theorem above_D (c : Dev nD) : above 1 [debtD c] := above_map (l := [()]) (f := fun _ => debtD c) fun _ => ⟨rfl, (by decide : 1 < 2)⟩
theorem above_B (c : Dev nD) (l : List (Fin 3)) : above 0 (l.map (debtB c)) := above_map fun d => ⟨rfl, Nat.one_pos⟩
theorem above_mono {n n' : ℕ} (h : n ≤ n') {l : List (GSem nD τ sig × ℕ)} (ha : above n' l) : above n l :=
  fun x hx => ⟨(ha x hx).1, lt_of_le_of_lt h (ha x hx).2⟩

/-- A list's tallies are only at its cells. -/
theorem owedL_pos {l : List (GSem nD τ sig × ℕ)} {g : GSem nD τ sig} {u : Unit} (h : 0 < owedL l g u) : ∃ x ∈ l, x.1 = g := by
  induction l with
  | nil => exact absurd h (Nat.lt_irrefl 0)
  | cons x l ih =>
    obtain ⟨g', n⟩ := x
    rw [owedL_cons, Pi.add_apply, Finsupp.add_apply, tallyAt_apply] at h
    by_cases hg : g = g' ∧ u = ()
    · exact ⟨_, List.mem_cons_self, hg.1.symm⟩
    · rw [if_neg hg, Nat.add_zero] at h
      obtain ⟨x, hx, hxg⟩ := ih h
      exact ⟨x, List.mem_cons_of_mem _ hx, hxg⟩

omit [FloatOps F] in
/-- A device may wait on a semaphore below everything it owes. -/
theorem mayWait (c : Dev nD) (sm : SemLoc sig) (l : List (GSem nD τ sig × ℕ)) (h : above (lv ((c : Thread nD τ), sm) ()) l) :
    (levAts L lv : sProp 𝕄) ⊢ MayWait (c : Thread nD τ) sm () (owedL l) := by
  refine MayOwe.of_cut (L := L) (lev := lv) (lv ((c : Thread nD τ), sm) ())
    (fun p hp => by rw [Finset.mem_singleton.mp hp, L_tc]; exact Finset.mem_singleton_self _)
    (fun g u hg => ?_) (fun p hp => by rw [Finset.mem_singleton.mp hp]) (fun g u hg => ?_)
  · obtain ⟨x, hx, rfl⟩ := owedL_pos hg
    unfold L; rw [if_pos (h x hx).1]; exact Finset.mem_singleton_self _
  · obtain ⟨x, hx, rfl⟩ := owedL_pos hg
    exact (h x hx).2

end Cert.KernelIdeal.Exch

end
-- ==== Proof.KI.Steps.lean ====
/-
One lemma for each kind of operation the kernel performs: a barrier signal, the barrier wait, a remote copy, a local
copy and a wait for a copy. Each says what the device must hold, what it then owes less, and what it gets.
-/
module

public import proofs.«01_k».proof.Proof.KI.Schedule

@[expose] public section

noncomputable section

namespace Cert.KernelIdeal.Exch

open Cert.KernelIdeal Cert.KernelIdeal.Gen Cert.Lists
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells and what is known of all of them -/

/-- The kernel's semaphores in one numbering: the barrier at 0, its DMA semaphores at their own numbers. -/
abbrev csem (i : Fin 34) : SemLoc sig := if i.val = 0 then .reg barS else .dma (i : DmaSem sig)
abbrev kcell (p : Dev nD × Fin 34) : GSem nD τ sig := ((p.1 : Thread nD τ), csem p.2)

/-- Every cell of every device has its invariant and has reached its round. -/
def records (K : Dev nD × Fin 34 → ℕ) : sProp 𝕄 :=
  bigSep Finset.univ fun p : Dev nD × Fin 34 => iprop(cellInv ER (Rd m ρ) (K p) (kcell p) ∗ reached ER (kcell p) 0)

instance records_persistent (K : Dev nD × Fin 34 → ℕ) : BI.Persistent (records (F := F) m ρ K) := by unfold records; infer_instance

/-- The knowledge every step uses: the cells, and the levels. -/
def ctx (K : Dev nD × Fin 34 → ℕ) : sProp 𝕄 := iprop(records m ρ K ∗ levAts L lv)

instance ctx_persistent (K : Dev nD × Fin 34 → ℕ) : BI.Persistent (ctx (F := F) m ρ K) := by unfold ctx; infer_instance

variable (K : Dev nD × Fin 34 → ℕ)

theorem records_at (c : Dev nD) (i : Fin 34) :
    records m ρ K ⊢ iprop(cellInv ER (Rd m ρ) (K (c, i)) (kcell (c, i)) ∗ reached ER (kcell (c, i)) 0) := by
  unfold records
  exact bigSep_elim (Φ := fun p : Dev nD × Fin 34 => iprop(cellInv ER (Rd m ρ) (K p) (kcell p) ∗ reached ER (kcell p) 0)) (Finset.mem_univ (c, i))
theorem bar_at (c : Dev nD) : records m ρ K ⊢ iprop(cellInv ER (Rd m ρ) (K (c, 0)) (bcell c) ∗ reached ER (bcell c) 0) := records_at m ρ K c 0
theorem dma_at (c : Dev nD) (q : DmaSem sig) (hq : q.val ≠ 0) :
    records m ρ K ⊢ iprop(cellInv ER (Rd m ρ) (K (c, q)) (dcell c q) ∗ reached ER (dcell c q) 0) := by
  have h := records_at m ρ K c q
  have e : kcell (c, q) = dcell c q := by unfold kcell csem; rw [if_neg hq]
  rwa [e] at h

/-! ## What a device holds -/

/-- Device `c` owes the listed debts. -/
def owe (c : Dev nD) (l : List (GSem nD τ sig × ℕ)) : sProp 𝕄 := iprop(∃ W, owes (c : Thread nD τ) (owedL l) W)
/-- The right to pay device `e`'s semaphore `q`. -/
abbrev tok (e : Dev nD) (q : DmaSem sig) : sProp 𝕄 := dutyTok ER (dcell e q) 0 0
/-- The right to pay signal `d` of device `e`'s barrier. -/
abbrev btok (e : Dev nD) (d : Fin 3) : sProp 𝕄 := dutyTok ER (bcell e) 0 d
/-- The credit with which device `c` waits on its semaphore `q`. -/
abbrev crd (c : Dev nD) (q : DmaSem sig) : sProp 𝕄 := cred (tallyAt (dcell c q) () (amt q))
/-- Device `c` has not yet waited on its semaphore `q`. -/
abbrev pos (c : Dev nD) (q : DmaSem sig) : sProp 𝕄 := atPos ER (dcell c q) 0 ∅ 0
/-- Device `c`'s semaphore `q` is at zero for good. -/
abbrev fin (c : Dev nD) (q : DmaSem sig) : sProp 𝕄 := semVal (dcell c q) 0

/-! ## Triples -/

/-- Program `p` on device `c` takes what it holds from `P` to `Q`. -/
def Tr (c : Dev nD) (P : sProp 𝕄) (p : Pr F) (Q : sProp 𝕄) : Prop :=
  ∀ Φ : PUnit → sProp 𝕄, iprop(ctx m ρ K ∗ P ∗ (Q -∗ Φ ⟨⟩)) ⊢ wp frame (wpE (defs₀ (F := F)) 𝒱₀ (c : Thread nD τ) none) Set.univ p Φ

variable {m ρ K}

/-- A triple with more held before, less after. -/
theorem Tr.weaken {c : Dev nD} {P P' Q Q' : sProp 𝕄} {p : Pr F} (h : Tr m ρ K c P p Q) (hP : P' ⊢ P) (hQ : Q ⊢ Q') :
    Tr m ρ K c P' p Q' := fun Φ => by
  refine BIBase.Entails.trans ?_ (h Φ)
  iintro ⟨Hc, HP, Hk⟩
  isplitl [Hc]; · iexact Hc
  isplitl [HP]; · iapply hP; iexact HP
  iintro HQ; iapply Hk; iapply hQ; iexact HQ

/-- What a program does not touch stays held. -/
theorem Tr.beside {c : Dev nD} {P Q : sProp 𝕄} {p : Pr F} (h : Tr m ρ K c P p Q) (R : sProp 𝕄) :
    Tr m ρ K c iprop(P ∗ R) p iprop(Q ∗ R) := fun Φ => by
  refine BIBase.Entails.trans ?_ (h Φ)
  iintro ⟨Hc, ⟨HP, HR⟩, Hk⟩
  isplitl [Hc]; · iexact Hc
  isplitl [HP]; · iexact HP
  iintro HQ; iapply Hk; isplitl [HQ] <;> iassumption

/-- One program after another. -/
theorem Tr.seq {c : Dev nD} {P Q R : sProp 𝕄} {p p' : Pr F} (h : Tr m ρ K c P p Q) (h' : Tr m ρ K c Q p' R) :
    Tr m ρ K c P (p >>= fun _ => p') R := fun Φ => by
  rw [wp_bind]
  refine BIBase.Entails.trans ?_ (h _)
  iintro ⟨#Hc, HP, Hk⟩
  isplitr; · iexact Hc
  isplitl [HP]; · iexact HP
  iintro HQ
  iapply (h' Φ)
  isplitr; · iexact Hc
  isplitl [HQ]; · iexact HQ
  iexact Hk

/-- A loop over a list: each turn pays its debts and turns what it is given into what it leaves. The turn may use that
    all that is still owed lies above level `n`. -/
theorem Tr.loop {I : Type} {c : Dev nD} (n : ℕ) (O : I → List (GSem nD τ sig × ℕ)) (A B : I → sProp 𝕄) (p : I → Pr F)
    (h : ∀ i l, above n l → Tr m ρ K c iprop(owe c (O i ++ l) ∗ A i) (p i) iprop(owe c l ∗ B i)) (l : List (GSem nD τ sig × ℕ))
    (is : List I) (ha : above n (is.flatMap O ++ l)) :
    Tr m ρ K c iprop(owe c (is.flatMap O ++ l) ∗ sepL A is) (seqL p is) iprop(owe c l ∗ sepL B is) := by
  induction is with
  | nil =>
    intro Φ
    show _ ⊢ wp frame _ Set.univ (.ret ⟨⟩) Φ
    rw [wp_ret]
    iintro ⟨-, HP, Hk⟩
    imodintro
    iapply Hk; iexact HP
  | cons i is ih =>
    rw [List.flatMap_cons, List.append_assoc] at ha ⊢
    have ha' := (above_append.mp ha).2
    refine Tr.seq (Q := iprop((owe c (is.flatMap O ++ l) ∗ sepL A is) ∗ B i))
      (((h i _ ha').beside (sepL A is)).weaken ?_ ?_) (((ih ha').beside (B i)).weaken (BI.Entails.refl _) ?_)
    · rw [sepL_cons, sepAssoc]
    · rw [sepAssoc, sepAssoc, sepComm (B i)]
    · rw [sepL_cons, sepAssoc, sepComm (B i)]

variable (m ρ K)

/-! ## The operations -/

/-- A barrier signal: it pays one debt and hands over what the neighbour is promised. -/
theorem sig_tr (c : Dev nD) (d : Fin 3) (l : List (GSem nD τ sig × ℕ)) :
    Tr m ρ K c iprop(owe c ([debtB c d] ++ l) ∗ btok (bn c d) d ∗ hand c d) (bSig c d) iprop(owe c l ∗ emp) := fun Φ => by
  unfold bSig ctx
  rw [bDev_eq]
  simp only [semSignalWord, Prog.lift]
  unfold owe
  iintro ⟨⟨#Hr, -⟩, ⟨⟨%W, HO⟩, Ht, Hh⟩, Hk⟩
  ihave #Hi := (bar_at m ρ K (bn c d)) $$ Hr
  icases Hi with ⟨#HI, #HR⟩
  iapply (Rounds.wp_signal 𝒱₀ ER (Rd m ρ) (c : Thread nD τ) none (dst := (bn c d : Thread nD τ)) (κ := K (bn c d, 0))
      (d := d) (Finset.mem_univ _) ((amount_bar m ρ (bn c d) d).trans (by decide)) () (owedL l) (owedL_cons (bcell (bn c d)) 1 l))
    $$ [HO Ht Hh]
  · isplitr; · iexact HI
    isplitl [HO]; · iexact HO
    isplitl [Ht]; · iexact Ht
    isplitl [Hh]; · rw [payload_bar, bn_bn]; iexact Hh
    iexact HR
  iintro HO
  rw [wp_ret]; imodintro
  iapply Hk
  isplitl [HO]; · iexists W; iexact HO
  iempintro

/-- The barrier wait: everything the three neighbours hand over. -/
theorem bwait_tr (c : Dev nD) (l : List (GSem nD τ sig × ℕ)) (h : above 1 l) :
    Tr m ρ K c iprop(owe c l ∗ cred (tallyAt (bcell c) () 3) ∗ atPos ER (bcell c) 0 ∅ 0) bWait
      iprop(owe c l ∗ semVal (bcell c) 0 ∗ sepL (fun d => hand (F := F) (bn c d) d) [0, 1, 2]) := fun Φ => by
  unfold bWait ctx
  simp only [semWaitWord, Prog.lift]
  unfold owe
  iintro ⟨⟨#Hr, #Hl⟩, ⟨⟨%W, HO⟩, Hc, Ha⟩, Hk⟩
  ihave #Hi := (bar_at m ρ K c) $$ Hr
  icases Hi with ⟨#HI, #HR⟩
  iapply (Rounds.wp_wait_rest_token 𝒱₀ ER (Rd m ρ) (c : Thread nD τ) none (κ := K (c, 0))
      (wpE_semWait_eq 𝒱₀ (c : Thread nD τ) none Set.univ) (Set.mem_univ _) () (O := owedL l) (W := W) (R := 0) (m := 0) (T := ∅)
      (by rw [expect_bar]; decide)) $$ [Hc HO Ha]
  · isplitr; · iexact HI
    isplitl [Hc]; · iexact Hc
    isplitl [HO]; · iexact HO
    isplitr; · iapply (mayWait c (.reg barS) l h); iexact Hl
    iexact Ha
  iintro ⟨HO, Ha, -, Hp⟩
  imod (Rounds.cell_close ER (Rd m ρ) (Set.mem_univ (K (c, 0))) (fun h => h) (R := 0 + 1) (duties_later m ρ (bcell c))) $$ [Ha] with Hz
  · isplitr; · iexact HI
    iexact Ha
  rw [wp_ret]; imodintro
  iapply Hk
  isplitl [HO]; · iexists _; iexact HO
  isplitl [Hz]; · iexact Hz
  iapply (Entails.of_eq (rest_bar m ρ c)); iexact Hp

/-- A wait for a copy, below everything owed: the copy's payload, and the semaphore at zero for good. -/
theorem wait_tr (c : Dev nD) (q : DmaSem sig) (hq : q.val ≠ 0) {sp sp' : Space} {s s' : Shape} {e e' : EltTy}
    {src : Memref sig .tc sp' s' e'} {dst : Memref sig .tc sp s e} {hsrc : src.view.WordExact} {hdst : dst.view.WordExact}
    (hc : dst.view.dmaCredit = amt q) (l : List (GSem nD τ sig × ℕ)) (h : above (lvS (slotOf q)) l) :
    Tr m ρ K c iprop(owe c l ∗ crd c q ∗ pos c q) (.lift (.waitDma2 q src dst hsrc hdst))
      iprop(owe c l ∗ fin c q ∗ payS m ρ c (slotOf q)) := fun Φ => by
  unfold ctx crd
  rw [← hc]
  simp only [Prog.lift]
  unfold owe
  iintro ⟨⟨#Hr, #Hl⟩, ⟨⟨%W, HO⟩, Hc, Ha⟩, Hk⟩
  ihave #Hi := (dma_at m ρ K c q hq) $$ Hr
  icases Hi with ⟨#HI, #HR⟩
  iapply (Rounds.wp_wait_rest_token 𝒱₀ ER (Rd m ρ) (c : Thread nD τ) none (κ := K (c, q))
      (wpE_waitDma2_eq 𝒱₀ (c : Thread nD τ) none Set.univ) (Set.mem_univ _) () (O := owedL l) (W := W) (R := 0) (m := 0) (T := ∅)
      (by rw [Nat.zero_add, expect_dma]; exact hc)) $$ [Hc HO Ha]
  · isplitr; · iexact HI
    isplitl [Hc]; · iexact Hc
    isplitl [HO]; · iexact HO
    isplitr; · iapply (mayWait c (.dma q) l h); iexact Hl
    iexact Ha
  iintro ⟨HO, Ha, -, Hp⟩
  imod (Rounds.cell_close ER (Rd m ρ) (Set.mem_univ (K (c, q))) (fun h => h) (R := 0 + 1) (duties_later m ρ (dcell c q))) $$ [Ha] with Hz
  · isplitr; · iexact HI
    iexact Ha
  rw [wp_ret]; imodintro
  iapply Hk
  isplitl [HO]; · iexists _; iexact HO
  isplitl [Hz]; · iexact Hz
  iapply (Entails.of_eq (rest_dma m ρ c q)); iexact Hp

/-- A remote copy: it pays the debt to the target's semaphore, and gives the credit for its own. -/
theorem send_tr (c e n : Dev nD) (hn : n = e) (q₁ q₂ : DmaSem sig) (h₁ : q₁.val ≠ 0) (h₂ : q₂.val ≠ 0)
    {sp sp' : Space} {s : Shape} {src : Memref sig .tc sp s .f32} {dst : Memref sig .tc sp' s .f32}
    {hsc : dst.view.ref.isScScratch = false} {hsrc : src.view.WordExact} {hdst : dst.view.WordExact}
    {hsem : DmaTarget.Typed sp (.dma q₂) (.remote (Dev.tc n : Thread nD τ) dst (.dma q₁) hsc)}
    {N : ℕ} (hN : dst.view.dmaCredit = N) (hN₁ : amt q₁ = N) (hN₂ : amt q₂ = N) {q : PosShare TreeShare}
    (fs : Buf (Elt F) (src.view.loc (c : Thread nD τ))) {A : sProp 𝕄} {B : Buf (Elt F) (dst.view.loc (e : Thread nD τ)) → sProp 𝕄}
    (hA : (src.view.loc (c : Thread nD τ) ↦[src.view.set]{q} fs : sProp 𝕄) = A)
    (hB : ∀ fd, (dst.view.loc (e : Thread nD τ) ↦[dst.view.set]{fullShare} fd : sProp 𝕄) = B fd)
    (hp₁ : A ⊢ payS m ρ c (slotOf q₁))
    (hp₂ : ∀ fd : Buf (Elt F) (dst.view.loc (e : Thread nD τ)),
      (dst.view.loc (e : Thread nD τ) ↦[dst.view.set]{fullShare} (dst.view.write (Elt F) fd (src.view.read (Elt F) fs) Finset.univ) : sProp 𝕄)
        ⊢ payS m ρ e (slotOf q₂)) (l : List (GSem nD τ sig × ℕ)) :
    Tr m ρ K c iprop(owe c ([(dcell e q₂, N)] ++ l) ∗ tok c q₁ ∗ tok e q₂ ∗ A ∗ ∃ fd, B fd)
      (.lift (.enqueueDma src (.remote (Dev.tc n : Thread nD τ) dst (.dma q₁) hsc) (.dma q₂) hsrc hdst hsem))
      iprop(owe c l ∗ crd c q₁) := fun Φ => by
  subst hn
  subst hA
  simp only [← hB]
  unfold ctx
  simp only [Prog.lift]
  unfold owe
  iintro ⟨⟨#Hr, -⟩, ⟨⟨%W, HO⟩, Ht₁, Ht₂, Hs, ⟨%fd, Hd⟩⟩, Hk⟩
  ihave #Hi₁ := (dma_at m ρ K c q₁ h₁) $$ Hr
  icases Hi₁ with ⟨#HI₁, #HR₁⟩
  ihave #Hi₂ := (dma_at m ρ K n q₂ h₂) $$ Hr
  icases Hi₂ with ⟨#HI₂, #HR₂⟩
  iapply (Rounds.wp_send_pointsTo 𝒱₀ ER (Rd m ρ) (c : Thread nD τ) none (κ₁ := K (c, q₁)) (κ₂ := K (n, q₂))
      (r₁ := 0) (r₂ := 0) (d₁ := 0) (d₂ := 0) (fd := fd) (fs := fs) (q := q)
      (by rw [duties_dma]; exact Finset.mem_singleton_self _) (by rw [duties_dma]; exact Finset.mem_singleton_self _)
      () () N (show dst.view.amount (.dma q₂) = N from hN) ((amount_dma m ρ c q₁ 0).trans hN₁) ((amount_dma m ρ n q₂ 0).trans hN₂) (owedL l) (owedL_cons (dcell n q₂) N l) (W := W)
      (by rw [payload_dma]; exact hp₁) (by rw [payload_dma]; exact hp₂ fd)) $$ [HO Ht₁ Ht₂ Hs Hd]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hc, HO⟩
  rw [wp_ret]; imodintro
  iapply Hk
  isplitl [HO]; · iexists W; iexact HO
  unfold crd; rw [hN₁]; iexact Hc

/-- A local copy: the credit for its semaphore. -/
theorem copy_tr (c : Dev nD) (q₁ : DmaSem sig) (h₁ : q₁.val ≠ 0)
    {sp sp' : Space} {s : Shape} {src : Memref sig .tc sp s .f32} {dst : Memref sig (c : Thread nD τ).2.kind sp' s .f32}
    {hsrc : src.view.WordExact} {hdst : dst.view.WordExact} {hsem : DmaTarget.Typed (nD := nD) sp (.dma q₁) (.here dst)}
    (hN : dst.view.dmaCredit = amt q₁) {q : PosShare TreeShare}
    (fs : Buf (Elt F) (src.view.loc (c : Thread nD τ))) {A : sProp 𝕄} {B : Buf (Elt F) (dst.view.loc (c : Thread nD τ)) → sProp 𝕄}
    (hA : (src.view.loc (c : Thread nD τ) ↦[src.view.set]{q} fs : sProp 𝕄) = A)
    (hB : ∀ fd, (dst.view.loc (c : Thread nD τ) ↦[dst.view.set]{fullShare} fd : sProp 𝕄) = B fd)
    (hp : ∀ fd : Buf (Elt F) (dst.view.loc (c : Thread nD τ)),
      iprop((dst.view.loc (c : Thread nD τ) ↦[dst.view.set]{fullShare} (dst.view.write (Elt F) fd (src.view.read (Elt F) fs) Finset.univ))
        ∗ A) ⊢ (payS m ρ c (slotOf q₁) : sProp 𝕄)) :
    Tr m ρ K c iprop(tok c q₁ ∗ A ∗ ∃ fd, B fd)
      (.lift (.enqueueDma src (.here dst) (.dma q₁) hsrc hdst hsem)) (crd c q₁) := fun Φ => by
  subst hA
  simp only [← hB]
  unfold ctx
  simp only [Prog.lift]
  iintro ⟨⟨#Hr, -⟩, ⟨Ht, Hs, ⟨%fd, Hd⟩⟩, Hk⟩
  ihave #Hi := (dma_at m ρ K c q₁ h₁) $$ Hr
  icases Hi with ⟨#HI, #HR⟩
  iapply (Rounds.wp_copy_pointsTo 𝒱₀ ER (Rd m ρ) (c : Thread nD τ) none (κ := K (c, q₁))
      (r := 0) (d := 0) (fd := fd) (fs := fs) (q := q) (by rw [duties_dma]; exact Finset.mem_singleton_self _)
      () (amt q₁) (show dst.view.amount (.dma q₁) = amt q₁ from hN) (amount_dma m ρ c q₁ 0) (by rw [payload_dma]; exact hp fd)) $$ [Ht Hs Hd]
  · isplitr; · iexact HI
    isplitl [Hs]; · iexact Hs
    isplitl [Hd]; · iexact Hd
    isplitl [Ht]; · iexact Ht
    iexact HR
  iintro Hc
  rw [wp_ret]; imodintro
  iapply Hk; iexact Hc

end Cert.KernelIdeal.Exch

end
-- ==== Proof.KI.Turns.lean ====
/-
The turns of the kernel's loops: what each takes and what it leaves, in rows of the operand, of the landing buffer and
of the result.
-/
module

public import proofs.«01_k».proof.Proof.KI.Steps

@[expose] public section

noncomputable section

namespace Cert.KernelIdeal.Exch

open Cert.KernelIdeal Cert.KernelIdeal.Gen Cert.Lists
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 34 → ℕ)

/-! ## The views' elements as rows -/

section Pts
variable (c e : Dev nD) (k : Fin 6) (q : PosShare TreeShare)

omit [FloatOps F] in
theorem xC_pt (f : XBuf F) : ((xC c k).view.loc (e : Thread nD τ) ↦[(xC c k).view.set]{q} f : sProp 𝕄) = xPt e q f (192 * par c + 32 * k.val) 32 := by
  rw [xC_set]; rfl
omit [FloatOps F] in
theorem xD_pt (f : XBuf F) : ((xD).view.loc (e : Thread nD τ) ↦[(xD).view.set]{q} f : sProp 𝕄) = xPt e q f 384 128 := by
  rw [xD_set]; rfl
omit [FloatOps F] in
theorem xM_pt (f : XBuf F) : ((xM).view.loc (e : Thread nD τ) ↦[(xM).view.set]{q} f : sProp 𝕄) = xPt e q f 0 512 := by
  rw [xM_set]; rfl
omit [FloatOps F] in
theorem fC_pt (f : FBuf F) : ((fC k).view.loc (e : Thread nD τ) ↦[(fC k).view.set]{q} f : sProp 𝕄) = fPt e q f (32 * k.val) 32 := by
  rw [fC_set]; rfl
omit [FloatOps F] in
theorem oC_pt (f : OBuf F) : ((oC c k).view.loc (e : Thread nD τ) ↦[(oC c k).view.set]{fullShare} f : sProp 𝕄)
    = oPt e f (rcv c + 192 * par c + 32 * k.val) 32 := by
  rw [oC_set]; rfl
omit [FloatOps F] in
theorem oD_pt (f : OBuf F) : ((oD c).view.loc (e : Thread nD τ) ↦[(oD c).view.set]{fullShare} f : sProp 𝕄) = oPt e f (own c + 384) 128 := by
  rw [oD_set]; rfl
omit [FloatOps F] in
theorem oH_pt (f : OBuf F) : ((oH c).view.loc (e : Thread nD τ) ↦[(oH c).view.set]{fullShare} f : sProp 𝕄) = oPt e f (own c) 512 := by
  rw [oH_set]; rfl

omit [FloatOps F] in
/-- The rows a neighbour forwards chunk `k` to are the ones it copies the chunk to at home. -/
theorem gPt_fn : gPt (F := F) (fn c k.val) k = iprop(∃ f, oPt (F := F) (fn c k.val) f (rcv c + 192 * par c + 32 * k.val) 32) := by
  unfold gPt
  have h : 1 - (1 - par c) = par c := by have := par_lt c; omega
  rw [rcv_fn, par_fn, h]

end Pts

theorem cr_fC (k : Fin 6) : (fC k).view.dmaCredit = N32 := rfl
theorem cr_xC (c : Dev nD) (k : Fin 6) : (xC c k).view.dmaCredit = N32 := rfl
theorem cr_oC (c : Dev nD) (k : Fin 6) : (oC c k).view.dmaCredit = N32 := rfl
theorem cr_xD : xD.view.dmaCredit = N128 := rfl
theorem cr_oD (c : Dev nD) : (oD c).view.dmaCredit = N128 := rfl
theorem cr_oH (c : Dev nD) : (oH c).view.dmaCredit = N512 := rfl
theorem amt_ds : amt (zsS 6) = N128 := rfl
theorem amt_dr : amt (zrS 6) = N128 := rfl
theorem amt_h : amt hS = N512 := rfl
theorem amt_zs (k : Fin 6) : amt (zsS k.castSucc) = N32 := by unfold amt; rw [slot_zs]; rfl
theorem amt_zr (k : Fin 6) : amt (zrS k.castSucc) = N32 := by unfold amt; rw [slot_zr]; rfl
theorem amt_fs (k : Fin 6) : amt (fsS k) = N32 := by unfold amt; rw [slot_fs]; rfl
theorem amt_fr (k : Fin 6) : amt (frS k) = N32 := by unfold amt; rw [slot_fr]; rfl
theorem amt_lc (k : Fin 6) : amt (lcS k) = N32 := by unfold amt; rw [slot_lc]; rfl
theorem zs_ne (k : Fin 7) : (zsS k).val ≠ 0 := by revert k; decide
theorem zr_ne (k : Fin 7) : (zrS k).val ≠ 0 := by revert k; decide
theorem fs_ne (k : Fin 6) : (fsS k).val ≠ 0 := by revert k; decide
theorem fr_ne (k : Fin 6) : (frS k).val ≠ 0 := by revert k; decide
theorem lc_ne (k : Fin 6) : (lcS k).val ≠ 0 := by revert k; decide

/-! ## The copies -/

/-- The first hop of chunk `k`. -/
theorem zSend_tr (c : Dev nD) (k : Fin 6) (l : List (GSem nD τ sig × ℕ)) :
    Tr m ρ K c iprop(owe c ([debtZ c k] ++ l) ∗ tok c (zsS k.castSucc) ∗ tok (zn c) (zrS k.castSucc)
        ∗ xPt c fullShare.left (xstg m ρ c) (192 * par c + 32 * k.val) 32 ∗ ∃ f, fPt (zn c) fullShare f (32 * k.val) 32)
      (zSend c k) iprop(owe c l ∗ crd c (zsS k.castSucc)) := by
  unfold zSend
  exact send_tr m ρ K c (zn c) (zDev c k) (zDev_eq c k) (zsS k.castSucc) (zrS k.castSucc) (zs_ne _) (zr_ne _)
    (src := xC c k) (dst := fC k) (cr_fC k) (amt_zs k) (amt_zr k) (xstg m ρ c) (xC_pt c c k _ _) (fun fd => fC_pt (zn c) k _ fd)
    (by rw [slot_zs]; exact BI.Entails.refl _)
    (fun fd => by rw [pointsTo_congr (z_lands m ρ c k fd), fC_pt, slot_zr]; exact BI.Entails.refl _) l

/-- The rows sent straight into the partner's result. -/
theorem dSend_tr (c : Dev nD) (l : List (GSem nD τ sig × ℕ)) :
    Tr m ρ K c iprop(owe c ([debtD c] ++ l) ∗ tok c (zsS 6) ∗ tok (zn c) (zrS 6)
        ∗ xPt c fullShare.left (xstg m ρ c) 384 128 ∗ ∃ f, oPt (zn c) f (own c + 384) 128)
      (dSend c) iprop(owe c l ∗ crd c (zsS 6)) := by
  unfold dSend
  exact send_tr m ρ K c (zn c) _ (dDev_eq c) (zsS 6) (zrS 6) (zs_ne _) (zr_ne _)
    (src := xD) (dst := oD c) (cr_oD c) amt_ds amt_dr (xstg m ρ c) (xD_pt c _ _) (fun fd => oD_pt c (zn c) fd)
    (by rw [slot_ds]; exact BI.Entails.refl _)
    (fun fd => by rw [pointsTo_congr (d_lands m ρ c fd), oD_pt, slot_dr]; unfold payS; rw [rcv_zn]) l

/-- The device's own block, copied into its result. -/
theorem hCopy_tr (c : Dev nD) :
    Tr m ρ K c iprop(tok c hS ∗ xPt c fullShare.right (xstg m ρ c) 0 512 ∗ ∃ f, oPt c f (own c) 512) (hCopy c) (crd c hS) := by
  unfold hCopy
  exact copy_tr m ρ K c hS (by decide) (src := xM) (dst := oH c) ((cr_oH c).trans amt_h.symm) (xstg m ρ c) (xM_pt c _ _)
    (fun fd => oH_pt c c fd)
    (fun fd => by rw [pointsTo_congr (h_lands m ρ c fd), oH_pt, slot_h]; exact BI.Entails.refl _)

/-- Landed chunk `k` forwarded. -/
theorem fSend_tr (c : Dev nD) (k : Fin 6) (l : List (GSem nD τ sig × ℕ)) :
    Tr m ρ K c iprop(owe c ([debtF c k] ++ l) ∗ tok c (fsS k) ∗ tok (fn c k.val) (frS k)
        ∗ fPt c fullShare.left (FB m ρ c) (32 * k.val) 32 ∗ ∃ f, oPt (fn c k.val) f (rcv c + 192 * par c + 32 * k.val) 32)
      (fSend c k) iprop(owe c l ∗ crd c (fsS k)) := by
  unfold fSend
  exact send_tr m ρ K c (fn c k.val) (fDev c k) (fDev_eq c k) (fsS k) (frS k) (fs_ne _) (fr_ne _)
    (src := fC k) (dst := oC c k) (cr_oC c k) (amt_fs k) (amt_fr k) (FB m ρ c) (fC_pt c k _ _) (fun fd => oC_pt c (fn c k.val) k fd)
    (by rw [slot_fs]; exact BI.Entails.refl _)
    (fun fd => by
      have hp : 1 - (1 - par c) = par c := by have := par_lt c; omega
      rw [pointsTo_congr (f_lands m ρ c k fd), oC_pt, slot_fr]; unfold payS; rw [rcv_fn, par_fn, hp]) l

/-- Landed chunk `k` copied at home. -/
theorem lCopy_tr (c : Dev nD) (k : Fin 6) :
    Tr m ρ K c iprop(tok c (lcS k) ∗ fPt c fullShare.right (FB m ρ c) (32 * k.val) 32
        ∗ ∃ f, oPt c f (rcv c + 192 * par c + 32 * k.val) 32) (lCopy c k) (crd c (lcS k)) := by
  unfold lCopy
  exact copy_tr m ρ K c (lcS k) (lc_ne k) (src := fC k) (dst := oC c k) ((cr_oC c k).trans (amt_lc k).symm) (FB m ρ c)
    (fC_pt c k _ _) (fun fd => oC_pt c c k fd)
    (fun fd => by rw [pointsTo_congr (l_lands m ρ c k fd), oC_pt, slot_lc]; exact BI.Entails.refl _)

/-! ## The waits -/

theorem zrWait_tr (c : Dev nD) (k : Fin 6) (l : List (GSem nD τ sig × ℕ)) (h : above 2 l) :
    Tr m ρ K c iprop(owe c l ∗ crd c (zrS k.castSucc) ∗ pos c (zrS k.castSucc)) (zrWait c k)
      iprop(owe c l ∗ fin c (zrS k.castSucc) ∗ fPt c fullShare (FB m ρ c) (32 * k.val) 32) := by
  unfold zrWait
  have h := wait_tr m ρ K c (zrS k.castSucc) (zr_ne _) (src := xC c k) (dst := fC k) (hsrc := View.wordExact_bits rfl)
    (hdst := View.wordExact_bits rfl) ((cr_fC k).trans (amt_zr k).symm) l (by rw [slot_zr]; exact h)
  rw [slot_zr] at h
  exact h

/-- A wait on a semaphore of level 0, as a turn of a loop that pays no debt. -/
theorem tail_tr (c : Dev nD) (q : DmaSem sig) (hq : q.val ≠ 0) {sp sp' : Space} {s s' : Shape} {e e' : EltTy}
    {src : Memref sig .tc sp' s' e'} {dst : Memref sig .tc sp s e} {hsrc : src.view.WordExact} {hdst : dst.view.WordExact}
    (hc : dst.view.dmaCredit = amt q) {t : Slot} (ht : slotOf q = t) :
    Tr m ρ K c iprop(owe c [] ∗ crd c q ∗ pos c q) (.lift (.waitDma2 q src dst hsrc hdst))
      iprop(owe c [] ∗ fin c q ∗ payS m ρ c t) := by
  subst ht; exact wait_tr m ρ K c q hq hc [] (above_nil _)

theorem zsWait_tr (c : Dev nD) (k : Fin 6) :
    Tr m ρ K c iprop(owe c [] ∗ crd c (zsS k.castSucc) ∗ pos c (zsS k.castSucc)) (zsWait c k)
      iprop(owe c [] ∗ fin c (zsS k.castSucc) ∗ payS m ρ c (.zs k)) := by
  unfold zsWait; exact tail_tr m ρ K c _ (zs_ne _) ((cr_xC c k).trans (amt_zs k).symm) (slot_zs k)
theorem dsWait_tr (c : Dev nD) : Tr m ρ K c iprop(owe c [] ∗ crd c (zsS 6) ∗ pos c (zsS 6)) (dsWait c)
    iprop(owe c [] ∗ fin c (zsS 6) ∗ payS m ρ c .ds) := by
  unfold dsWait; exact tail_tr m ρ K c _ (zs_ne _) ((cr_xD).trans (amt_ds).symm) slot_ds
theorem drWait_tr (c : Dev nD) : Tr m ρ K c iprop(owe c [] ∗ crd c (zrS 6) ∗ pos c (zrS 6)) (drWait c)
    iprop(owe c [] ∗ fin c (zrS 6) ∗ payS m ρ c .dr) := by
  unfold drWait; exact tail_tr m ρ K c _ (zr_ne _) ((cr_oD c).trans (amt_dr).symm) slot_dr
theorem fsWait_tr (c : Dev nD) (k : Fin 6) : Tr m ρ K c iprop(owe c [] ∗ crd c (fsS k) ∗ pos c (fsS k)) (fsWait c k)
    iprop(owe c [] ∗ fin c (fsS k) ∗ payS m ρ c (.fs k)) := by
  unfold fsWait; exact tail_tr m ρ K c _ (fs_ne _) ((cr_fC k).trans (amt_fs k).symm) (slot_fs k)
theorem frWait_tr (c : Dev nD) (k : Fin 6) : Tr m ρ K c iprop(owe c [] ∗ crd c (frS k) ∗ pos c (frS k)) (frWait c k)
    iprop(owe c [] ∗ fin c (frS k) ∗ payS m ρ c (.fr k)) := by
  unfold frWait; exact tail_tr m ρ K c _ (fr_ne _) ((cr_oC c k).trans (amt_fr k).symm) (slot_fr k)
theorem lcWait_tr (c : Dev nD) (k : Fin 6) : Tr m ρ K c iprop(owe c [] ∗ crd c (lcS k) ∗ pos c (lcS k)) (lcWait c k)
    iprop(owe c [] ∗ fin c (lcS k) ∗ payS m ρ c (.lc k)) := by
  unfold lcWait; exact tail_tr m ρ K c _ (lc_ne _) ((cr_oC c k).trans (amt_lc k).symm) (slot_lc k)
theorem hWait_tr (c : Dev nD) : Tr m ρ K c iprop(owe c [] ∗ crd c hS ∗ pos c hS) (hWait c)
    iprop(owe c [] ∗ fin c hS ∗ payS m ρ c .h) := by
  unfold hWait; exact tail_tr m ρ K c _ (by decide) ((cr_oH c).trans (amt_h).symm) slot_h

/-! ## The turns of two operations or more -/

/-- One turn of the forwarding loop: the chunk lands, is forwarded and is copied at home. -/
theorem fTurn_tr (c : Dev nD) (k : Fin 6) (l : List (GSem nD τ sig × ℕ)) (h : above 2 l) :
    Tr m ρ K c iprop(owe c ([debtF c k] ++ l) ∗ crd c (zrS k.castSucc) ∗ pos c (zrS k.castSucc) ∗ tok c (fsS k) ∗ tok (fn c k.val) (frS k)
        ∗ tok c (lcS k) ∗ gPt (fn c k.val) k ∗ ∃ f, oPt c f (rcv c + 192 * par c + 32 * k.val) 32)
      (fTurn c k) iprop(owe c l ∗ fin c (zrS k.castSucc) ∗ crd c (fsS k) ∗ crd c (lcS k)) := fun Φ => by
  unfold fTurn
  rw [gPt_fn]
  simp only [wp_bind]
  iintro ⟨#Hc, ⟨HO, Hcr, Ha, Ht₁, Ht₂, Ht₃, Hg, Ho⟩, Hk⟩
  iapply (zrWait_tr m ρ K c k ([debtF c k] ++ l) (above_append.mpr ⟨above_F c [k], h⟩) _)
  isplitr; · iexact Hc
  isplitl [HO Hcr Ha]
  · isplitl [HO]; · iexact HO
    isplitl [Hcr] <;> iassumption
  iintro ⟨HO, Hz, Hf⟩
  ihave Hf := (Entails.of_eq (fPt_halves c (FB m ρ c) (32 * k.val) 32)) $$ Hf
  icases Hf with ⟨Hf₁, Hf₂⟩
  iapply (fSend_tr m ρ K c k l _)
  isplitr; · iexact Hc
  isplitl [HO Ht₁ Ht₂ Hf₁ Hg]
  · isplitl [HO]; · iexact HO
    isplitl [Ht₁]; · iexact Ht₁
    isplitl [Ht₂]; · iexact Ht₂
    isplitl [Hf₁] <;> iassumption
  iintro ⟨HO, Hcf⟩
  iapply (lCopy_tr m ρ K c k _)
  isplitr; · iexact Hc
  isplitl [Ht₃ Hf₂ Ho]
  · isplitl [Ht₃]; · iexact Ht₃
    isplitl [Hf₂] <;> iassumption
  iintro Hcl
  iapply Hk
  isplitl [HO]; · iexact HO
  isplitl [Hz]; · iexact Hz
  isplitl [Hcf] <;> iassumption

/-- One turn of the loop that waits for the forwards. -/
theorem wTurn_tr (c : Dev nD) (k : Fin 6) :
    Tr m ρ K c iprop(owe c [] ∗ crd c (fsS k) ∗ pos c (fsS k) ∗ crd c (frS k) ∗ pos c (frS k)) (wTurn c k)
      iprop(owe c [] ∗ fin c (fsS k) ∗ payS m ρ c (.fs k) ∗ fin c (frS k) ∗ payS m ρ c (.fr k)) := fun Φ => by
  unfold wTurn
  simp only [wp_bind]
  iintro ⟨#Hc, ⟨HO, H₁, H₂, H₃, H₄⟩, Hk⟩
  iapply (fsWait_tr m ρ K c k _)
  isplitr; · iexact Hc
  isplitl [HO H₁ H₂]
  · isplitl [HO]; · iexact HO
    isplitl [H₁] <;> iassumption
  iintro ⟨HO, Hz, Hf⟩
  iapply (frWait_tr m ρ K c k _)
  isplitr; · iexact Hc
  isplitl [HO H₃ H₄]
  · isplitl [HO]; · iexact HO
    isplitl [H₃] <;> iassumption
  iintro ⟨HO, Hz', Hf'⟩
  iapply Hk
  isplitl [HO]; · iexact HO
  isplitl [Hz]; · iexact Hz
  isplitl [Hf]; · iexact Hf
  isplitl [Hz'] <;> iassumption

end Cert.KernelIdeal.Exch

end
-- ==== Proof.KI.Body.lean ====
/-
The whole kernel on one device: from its staged operand, its landing buffer and its result array holding anything, with
its share of the exchange's rights, to its result array filled, every semaphore at zero and nothing owed.
-/
module

public import proofs.«01_k».proof.Proof.KI.Turns

@[expose] public section

noncomputable section

namespace Cert.KernelIdeal.Exch

open Cert.KernelIdeal Cert.KernelIdeal.Gen Cert.Lists
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 34 → ℕ)

/-! ## The arrays in the pieces the transfers move -/

omit [FloatOps F] in
/-- The operand: the six chunks of the first hop, the rows not sent, the rows sent directly. -/
theorem x_split (c : Dev nD) (q : PosShare TreeShare) (f : XBuf F) :
    xPt c q f 0 512 = iprop(sepL (fun k : Fin 6 => xPt c q f (192 * par c + 32 * k.val) 32) six ∗ xPt c q f (192 * (1 - par c)) 192 ∗ xPt c q f 384 128) := by
  rw [← chunks (xPt c q f) (xPt_add c q f)]
  have e : xPt c q f 0 512 = iprop(xPt c q f 0 192 ∗ xPt c q f 192 192 ∗ xPt c q f 384 128) := by
    rw [show 512 = 192 + (192 + 128) from rfl, xPt_add, xPt_add]
  rcases par_lt c with h | h <;> rw [e, h]
  exact sepLeftComm _ _ _

omit [FloatOps F] in
/-- The landing buffer: six chunks. -/
theorem f_split (c : Dev nD) (q : PosShare TreeShare) (f : FBuf F) :
    fPt c q f 0 192 = sepL (fun k : Fin 6 => fPt c q f (32 * k.val) 32) six := by
  rw [chunks (fPt c q f) (fPt_add c q f)]; simp only [Nat.zero_add]

omit [FloatOps F] in
/-- The result: the device's own half; of the half it receives, the chunks copied at home, those a neighbour forwards,
    and the rows sent directly. -/
theorem o_split (c : Dev nD) (f : OBuf F) :
    oPt c f 0 1024 = iprop(oPt c f (own c) 512 ∗ sepL (fun k : Fin 6 => oPt c f (rcv c + 192 * par c + 32 * k.val) 32) six
      ∗ sepL (fun k : Fin 6 => oPt c f (rcv c + 192 * (1 - par c) + 32 * k.val) 32) six ∗ oPt c f (rcv c + 384) 128) := by
  rw [← chunks (oPt c f) (oPt_add c f), ← chunks (oPt c f) (oPt_add c f)]
  have e : oPt c f 0 1024 = iprop(oPt c f (own c) 512 ∗ oPt c f (rcv c) 512) := by
    rw [show 1024 = 512 + 512 from rfl, oPt_add]
    rcases own_rcv c with ⟨h, h', -⟩ | ⟨h, h', -⟩ <;> rw [h, h']
    exact sepComm _ _
  have e' : oPt c f (rcv c) 512 = iprop(oPt c f (rcv c) 192 ∗ oPt c f (rcv c + 192) 192 ∗ oPt c f (rcv c + 384) 128) := by
    have h := oPt_add c f (rcv c) 192 (192 + 128)
    rw [oPt_add c f (rcv c + 192) 192 128, Nat.add_assoc] at h
    exact h
  rw [e, e']
  rcases par_lt c with h | h <;> rw [h]
  · rw [show 192 * 0 = 0 from rfl, show 192 * (1 - 0) = 192 from rfl, Nat.add_zero (rcv c)]
  · rw [show 192 * 1 = 192 from rfl, show 192 * (1 - 1) = 0 from rfl, Nat.add_zero (rcv c), sepLeftComm (oPt c f (rcv c) 192)]

omit [FloatOps F] in
theorem sepL_six (A : Fin 6 → sProp 𝕄) : sepL A six = iprop(sepL A [0, 2, 4] ∗ sepL A [1, 3, 5]) := by
  unfold six
  simp only [sepL_cons, sepL_nil, sepEmp]
  rw [sepAssoc, sepAssoc, sepLeftComm (A 1), sepLeftComm (A 3), sepLeftComm (A 1)]

omit [FloatOps F] in
theorem sepL_three (A : Fin 3 → sProp 𝕄) : sepL A [0, 1, 2] = iprop(A 0 ∗ A 1 ∗ A 2) := by
  simp only [sepL_cons, sepL_nil, sepEmp]

omit [FloatOps F] in
theorem sepL_one {I : Type} (A : I → sProp 𝕄) (i : I) : sepL A [i] = A i := by rw [sepL_cons, sepL_nil, sepEmp]

omit [FloatOps F] in
theorem hand_z (n : Dev nD) : hand (F := F) n 0 = iprop((∃ f, fPt (F := F) n fullShare f 0 192) ∗ ∃ f, oPt (F := F) n f (rcv n + 384) 128) := if_pos rfl
omit [FloatOps F] in
theorem hand_x (n : Dev nD) : hand (F := F) n 1 = sepL (gPt (F := F) n) [0, 2, 4] := (if_neg (by decide)).trans (if_pos rfl)
omit [FloatOps F] in
theorem hand_y (n : Dev nD) : hand (F := F) n 2 = sepL (gPt (F := F) n) [1, 3, 5] := (if_neg (by decide)).trans (if_neg (by decide))

theorem bn_z (c : Dev nD) : bn c 0 = zn c := if_pos rfl
theorem bn_x (c : Dev nD) : bn c 1 = xn c := (if_neg (by decide)).trans (if_pos rfl)
theorem bn_y (c : Dev nD) : bn c 2 = yn c := (if_neg (by decide)).trans (if_neg (by decide))

omit [FloatOps F] in
/-- What a device hands over with its three signals. -/
theorem hands_out (c : Dev nD) : sepL (fun d => hand (F := F) c d) [0, 1, 2]
    = iprop(((∃ f, fPt (F := F) c fullShare f 0 192) ∗ ∃ f, oPt (F := F) c f (rcv c + 384) 128) ∗ sepL (gPt c) six) := by
  rw [sepL_three, sepL_six (gPt c), hand_z, hand_x, hand_y]

omit [FloatOps F] in
/-- The even chunks are forwarded to the `x` neighbour, the odd ones to the `y` neighbour. -/
theorem gPt_sides (c : Dev nD) : sepL (fun k : Fin 6 => gPt (F := F) (fn c k.val) k) six
    = iprop(sepL (gPt (F := F) (xn c)) [0, 2, 4] ∗ sepL (gPt (F := F) (yn c)) [1, 3, 5]) := by
  rw [sepL_six (fun k : Fin 6 => gPt (F := F) (fn c k.val) k)]
  have he : ∀ k ∈ ([0, 2, 4] : List (Fin 6)), k.val % 2 = 0 := by decide
  have ho : ∀ k ∈ ([1, 3, 5] : List (Fin 6)), ¬ k.val % 2 = 0 := by decide
  rw [sepL_congr [0, 2, 4] fun k hk => congrArg (fun n => gPt (F := F) n k) (show fn c k.val = xn c from if_pos (he k hk)),
    sepL_congr [1, 3, 5] fun k hk => congrArg (fun n => gPt (F := F) n k) (show fn c k.val = yn c from if_neg (ho k hk))]

omit [FloatOps F] in
/-- What it is handed: its `z` neighbour's landing buffer and direct rows, and the chunks it forwards into. -/
theorem hands_in (c : Dev nD) : sepL (fun d => hand (F := F) (bn c d) d) [0, 1, 2]
    ⊢ iprop(sepL (fun k : Fin 6 => iprop(∃ f, fPt (F := F) (zn c) fullShare f (32 * k.val) 32)) six ∗ (∃ f, oPt (F := F) (zn c) f (own c + 384) 128)
        ∗ sepL (fun k : Fin 6 => gPt (F := F) (fn c k.val) k) six) := by
  rw [sepL_three, gPt_sides, hand_z, hand_x, hand_y, bn_z, bn_x, bn_y, rcv_zn]
  iintro ⟨⟨⟨%f, Hf⟩, Ho⟩, Hg⟩
  isplitl [Hf]
  · ihave Hf := (Entails.of_eq (f_split (zn c) fullShare f)) $$ Hf
    iapply (sepL_mono (A := fun k : Fin 6 => fPt (zn c) fullShare f (32 * k.val) 32) six fun k => by iintro H; iexists f; iexact H)
    iexact Hf
  isplitl [Ho]; · iexact Ho
  iexact Hg

omit [FloatOps F] in
/-- The result array holding anything, in its pieces. -/
theorem o_pieces (c : Dev nD) : iprop(∃ f, oPt (F := F) c f 0 1024)
    ⊢ iprop((∃ f, oPt (F := F) c f (own c) 512) ∗ sepL (fun k : Fin 6 => iprop(∃ f, oPt (F := F) c f (rcv c + 192 * par c + 32 * k.val) 32)) six
      ∗ sepL (gPt c) six ∗ ∃ f, oPt (F := F) c f (rcv c + 384) 128) := by
  iintro ⟨%f, H⟩
  ihave H := (Entails.of_eq (o_split c f)) $$ H
  icases H with ⟨H₁, H₂, H₃, H₄⟩
  isplitl [H₁]; · iexists f; iexact H₁
  isplitl [H₂]
  · iapply (sepL_mono (A := fun k : Fin 6 => oPt c f (rcv c + 192 * par c + 32 * k.val) 32) six fun k => by iintro H; iexists f; iexact H)
    iexact H₂
  isplitl [H₃]
  · iapply (sepL_mono (A := fun k : Fin 6 => oPt c f (rcv c + 192 * (1 - par c) + 32 * k.val) 32) (B := gPt c) six
      fun k => by unfold gPt; iintro H; iexists f; iexact H)
    iexact H₃
  iexists f; iexact H₄

/-! ## The semaphores by family -/

omit [FloatOps F] in
theorem dlist_eq (A : DmaSem sig → sProp 𝕄) : sepL A dlist
    = iprop(sepL (fun k : Fin 6 => A (zsS k.castSucc)) six ∗ A (zsS 6) ∗ sepL (fun k : Fin 6 => A (zrS k.castSucc)) six ∗ A (zrS 6)
        ∗ sepL (fun k : Fin 6 => A (fsS k)) six ∗ sepL (fun k : Fin 6 => A (frS k)) six ∗ sepL (fun k : Fin 6 => A (lcS k)) six ∗ A hS) := by
  unfold dlist
  rw [sepL_append, sepL_append, sepL_append, sepL_append, sepL_append, sepL_append, sepL_append, sepL_map, sepL_map, sepL_map, sepL_map, sepL_map,
    sepL_one, sepL_one, sepL_one]
  simp only [sepAssoc]

/-! ## The kernel -/

/-- What device `c` starts from. -/
def startP (c : Dev nD) : sProp 𝕄 :=
  iprop(owe c (debts c) ∗ sepL (fun d => btok (bn c d) d) [0, 1, 2] ∗ cred (tallyAt (bcell c) () 3) ∗ atPos ER (bcell c) 0 ∅ 0
    ∗ sepL (fun q => tok (pr c q) q) dlist ∗ sepL (pos c) dlist
    ∗ sepL (fun k : Fin 6 => crd c (zrS k.castSucc)) six ∗ crd c (zrS 6) ∗ sepL (fun k : Fin 6 => crd c (frS k)) six
    ∗ xPt c fullShare (xstg m ρ c) 0 512 ∗ (∃ f, fPt c fullShare f 0 192) ∗ ∃ f, oPt c f 0 1024)

/-- What it ends with. -/
def endP (c : Dev nD) : sProp 𝕄 :=
  iprop(owe c [] ∗ semVal (bcell c) 0 ∗ sepL (fin c) dlist ∗ xPt c fullShare (xstg m ρ c) 0 512 ∗ (∃ f, fPt c fullShare f 0 192)
    ∗ oPt c (Gout m ρ c) 0 1024)

theorem sigs_tr (c : Dev nD) (l : List (GSem nD τ sig × ℕ)) (h : above 0 l) :
    Tr m ρ K c iprop(owe c ([0, 1, 2].map (debtB c) ++ l) ∗ sepL (fun d => btok (bn c d) d) [0, 1, 2] ∗ sepL (fun d => hand c d) [0, 1, 2])
      (seqL (bSig c) [0, 1, 2]) (owe c l) := by
  have t := Tr.loop (m := m) (ρ := ρ) (K := K) (c := c) 0 (fun d => [debtB c d]) (fun d => iprop(btok (bn c d) d ∗ hand c d)) (fun _ => iprop(emp)) (bSig c)
    (fun d l _ => sig_tr m ρ K c d l) l [0, 1, 2] (above_append.mpr ⟨above_B c [0, 1, 2], h⟩)
  rw [sepL_sep] at t
  refine t.weaken (BI.Entails.refl _) ?_
  iintro ⟨H, -⟩; iexact H

theorem zSends_tr (c : Dev nD) (l : List (GSem nD τ sig × ℕ)) (h : above 0 l) :
    Tr m ρ K c iprop(owe c (six.map (debtZ c) ++ l) ∗ sepL (fun k : Fin 6 => tok c (zsS k.castSucc)) six
        ∗ sepL (fun k : Fin 6 => tok (zn c) (zrS k.castSucc)) six
        ∗ sepL (fun k : Fin 6 => xPt c fullShare.left (xstg m ρ c) (192 * par c + 32 * k.val) 32) six
        ∗ sepL (fun k : Fin 6 => iprop(∃ f, fPt (F := F) (zn c) fullShare f (32 * k.val) 32)) six)
      (seqL (zSend c) six) iprop(owe c l ∗ sepL (fun k : Fin 6 => crd c (zsS k.castSucc)) six) := by
  have t := Tr.loop (m := m) (ρ := ρ) (K := K) (c := c) 0 (fun k => [debtZ c k]) _ _ (zSend c)
    (fun k l _ => zSend_tr m ρ K c k l) l six (above_append.mpr ⟨above_mono (by decide) (above_Z c six), h⟩)
  rw [sepL_sep, sepL_sep, sepL_sep] at t
  exact t

theorem fTurns_tr (c : Dev nD) :
    Tr m ρ K c iprop(owe c (six.map (debtF c)) ∗ sepL (fun k : Fin 6 => crd c (zrS k.castSucc)) six ∗ sepL (fun k : Fin 6 => pos c (zrS k.castSucc)) six
        ∗ sepL (fun k : Fin 6 => tok c (fsS k)) six ∗ sepL (fun k : Fin 6 => tok (fn c k.val) (frS k)) six ∗ sepL (fun k : Fin 6 => tok c (lcS k)) six
        ∗ sepL (fun k : Fin 6 => gPt (fn c k.val) k) six
        ∗ sepL (fun k : Fin 6 => iprop(∃ f, oPt (F := F) c f (rcv c + 192 * par c + 32 * k.val) 32)) six)
      (seqL (fTurn c) six) iprop(owe c [] ∗ sepL (fun k : Fin 6 => fin c (zrS k.castSucc)) six ∗ sepL (fun k : Fin 6 => crd c (fsS k)) six
        ∗ sepL (fun k : Fin 6 => crd c (lcS k)) six) := by
  have t := Tr.loop (m := m) (ρ := ρ) (K := K) (c := c) 2 (fun k => [debtF c k]) _ _ (fTurn c)
    (fun k l h => fTurn_tr m ρ K c k l h) [] six (above_append.mpr ⟨above_F c six, above_nil _⟩)
  rw [sepL_sep, sepL_sep, sepL_sep, sepL_sep, sepL_sep, sepL_sep, sepL_sep, sepL_sep] at t
  exact t

/-- A loop of waits, nothing being owed. -/
theorem waits_tr (c : Dev nD) (A B : Fin 6 → sProp 𝕄) (p : Fin 6 → Pr F)
    (h : ∀ k, Tr m ρ K c iprop(owe c [] ∗ A k) (p k) iprop(owe c [] ∗ B k)) :
    Tr m ρ K c iprop(owe c [] ∗ sepL A six) (seqL p six) iprop(owe c [] ∗ sepL B six) := by
  suffices hl : ∀ l : List (Fin 6), Tr m ρ K c iprop(owe c [] ∗ sepL A l) (seqL p l) iprop(owe c [] ∗ sepL B l) from hl six
  intro l
  induction l with
  | nil =>
    intro Φ
    show _ ⊢ wp frame _ Set.univ (.ret ⟨⟩) Φ
    rw [wp_ret]
    iintro ⟨-, HP, Hk⟩
    imodintro
    iapply Hk; iexact HP
  | cons k l ih =>
    refine Tr.seq (Q := iprop((owe c [] ∗ sepL A l) ∗ B k)) (((h k).beside (sepL A l)).weaken ?_ ?_) ((ih.beside (B k)).weaken (BI.Entails.refl _) ?_)
    · rw [sepL_cons, sepAssoc]
    · rw [sepAssoc, sepAssoc, sepComm (B k)]
    · rw [sepL_cons, sepAssoc, sepComm (B k)]

end Cert.KernelIdeal.Exch

end
-- ==== Proof.KI.Whole.lean ====
/-
The kernel on one device, its loops put together.
-/
module

public import proofs.«01_k».proof.Proof.KI.Body

@[expose] public section

noncomputable section

namespace Cert.KernelIdeal.Exch

open Cert.KernelIdeal Cert.KernelIdeal.Gen Cert.Lists
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 34 → ℕ)

theorem pr_zs (c : Dev nD) (k : Fin 6) : pr c (zsS k.castSucc) = c := by unfold pr; rw [slot_zs]; rfl
theorem pr_ds (c : Dev nD) : pr c (zsS 6) = c := rfl
theorem pr_zr (c : Dev nD) (k : Fin 6) : pr c (zrS k.castSucc) = zn c := by unfold pr; rw [slot_zr]; rfl
theorem pr_dr (c : Dev nD) : pr c (zrS 6) = zn c := rfl
theorem pr_fs (c : Dev nD) (k : Fin 6) : pr c (fsS k) = c := by unfold pr; rw [slot_fs]; rfl
theorem pr_fr (c : Dev nD) (k : Fin 6) : pr c (frS k) = fn c k.val := by unfold pr; rw [slot_fr]; rfl
theorem pr_lc (c : Dev nD) (k : Fin 6) : pr c (lcS k) = c := by unfold pr; rw [slot_lc]; rfl
theorem pr_h (c : Dev nD) : pr c hS = c := rfl

omit [FloatOps F] in
/-- The rights to pay, by family. -/
theorem toks_eq (c : Dev nD) : sepL (fun q => tok (F := F) (pr c q) q) dlist
    = iprop(sepL (fun k : Fin 6 => tok c (zsS k.castSucc)) six ∗ tok c (zsS 6) ∗ sepL (fun k : Fin 6 => tok (zn c) (zrS k.castSucc)) six ∗ tok (zn c) (zrS 6)
        ∗ sepL (fun k : Fin 6 => tok c (fsS k)) six ∗ sepL (fun k : Fin 6 => tok (fn c k.val) (frS k)) six ∗ sepL (fun k : Fin 6 => tok c (lcS k)) six
        ∗ tok c hS) := by
  rw [dlist_eq]; simp only [pr_zs, pr_zr, pr_fs, pr_fr, pr_lc, pr_ds, pr_dr, pr_h]

/-- The kernel takes device `c` from its start to its end. -/
theorem walk_tr (c : Dev nD) : Tr m ρ K c (startP m ρ c) (walk c) (endP m ρ c) := fun Φ => by
  unfold startP walk
  rw [toks_eq, dlist_eq (fun q => pos (F := F) c q)]
  simp only [wp_bind]
  iintro ⟨#Hc, ⟨HO, Hbt, Hbc, Hba, ⟨Tzs, Tds, Tzr, Tdr, Tfs, Tfr, Tlc, Th⟩, ⟨Azs, Ads, Azr, Adr, Afs, Afr, Alc, Ah⟩, Czr, Cdr, Cfr, Hx, Hf, Ho⟩, Hk⟩
  ihave Ho := (o_pieces c) $$ Ho
  icases Ho with ⟨Oh, Oc, Og, Od⟩
  ihave Hx := (Entails.of_eq (xPt_halves c (xstg m ρ c) 0 512)) $$ Hx
  icases Hx with ⟨X₁, X₂⟩
  ihave X₁ := (Entails.of_eq (x_split c fullShare.left (xstg m ρ c))) $$ X₁
  icases X₁ with ⟨Xc, Xr, Xd⟩
  -- the signals and the barrier wait
  iapply (sigs_tr m ρ K c (six.map (debtZ c) ++ ([debtD c] ++ six.map (debtF c)))
    (above_append.mpr ⟨above_mono (by decide) (above_Z c six), above_append.mpr ⟨above_mono (by decide) (above_D c), above_mono (by decide) (above_F c six)⟩⟩) _)
  isplitr; · iexact Hc
  isplitl [HO Hbt Hf Od Og]
  · isplitl [HO]; · iexact HO
    isplitl [Hbt]; · iexact Hbt
    iapply (Entails.of_eq (hands_out c).symm)
    isplitl [Hf Od]
    · isplitl [Hf] <;> iassumption
    iexact Og
  iintro HO
  iapply (bwait_tr m ρ K c (six.map (debtZ c) ++ ([debtD c] ++ six.map (debtF c)))
    (above_append.mpr ⟨above_Z c six, above_append.mpr ⟨above_D c, above_mono (by decide) (above_F c six)⟩⟩) _)
  isplitr; · iexact Hc
  isplitl [HO Hbc Hba]
  · isplitl [HO]; · iexact HO
    isplitl [Hbc] <;> iassumption
  iintro ⟨HO, Zb, Hh⟩
  ihave Hh := (hands_in c) $$ Hh
  icases Hh with ⟨Fz, Odz, Ogn⟩
  -- the first hop, the direct rows, the own half
  iapply (zSends_tr m ρ K c ([debtD c] ++ six.map (debtF c))
    (above_append.mpr ⟨above_mono (by decide) (above_D c), above_mono (by decide) (above_F c six)⟩) _)
  isplitr; · iexact Hc
  isplitl [HO Tzs Tzr Xc Fz]
  · isplitl [HO]; · iexact HO
    isplitl [Tzs]; · iexact Tzs
    isplitl [Tzr]; · iexact Tzr
    isplitl [Xc] <;> iassumption
  iintro ⟨HO, Czs⟩
  iapply (dSend_tr m ρ K c (six.map (debtF c)) _)
  isplitr; · iexact Hc
  isplitl [HO Tds Tdr Xd Odz]
  · isplitl [HO]; · iexact HO
    isplitl [Tds]; · iexact Tds
    isplitl [Tdr]; · iexact Tdr
    isplitl [Xd] <;> iassumption
  iintro ⟨HO, Cds⟩
  iapply (hCopy_tr m ρ K c _)
  isplitr; · iexact Hc
  isplitl [Th X₂ Oh]
  · isplitl [Th]; · iexact Th
    isplitl [X₂] <;> iassumption
  iintro Ch
  -- the forwarding loop
  iapply (fTurns_tr m ρ K c _)
  isplitr; · iexact Hc
  isplitl [HO Czr Azr Tfs Tfr Tlc Ogn Oc]
  · isplitl [HO]; · iexact HO
    isplitl [Czr]; · iexact Czr
    isplitl [Azr]; · iexact Azr
    isplitl [Tfs]; · iexact Tfs
    isplitl [Tfr]; · iexact Tfr
    isplitl [Tlc]; · iexact Tlc
    isplitl [Ogn] <;> iassumption
  iintro ⟨HO, Zzr, Cfs, Clc⟩
  -- the waits
  have hzs := waits_tr m ρ K c _ _ _ (fun k => zsWait_tr m ρ K c k)
  rw [sepL_sep, sepL_sep] at hzs
  iapply (hzs _)
  isplitr; · iexact Hc
  isplitl [HO Czs Azs]
  · isplitl [HO]; · iexact HO
    isplitl [Czs] <;> iassumption
  iintro ⟨HO, Zzs, Xc⟩
  iapply (dsWait_tr m ρ K c _)
  isplitr; · iexact Hc
  isplitl [HO Cds Ads]
  · isplitl [HO]; · iexact HO
    isplitl [Cds] <;> iassumption
  iintro ⟨HO, Zds, Xd⟩
  iapply (drWait_tr m ρ K c _)
  isplitr; · iexact Hc
  isplitl [HO Cdr Adr]
  · isplitl [HO]; · iexact HO
    isplitl [Cdr] <;> iassumption
  iintro ⟨HO, Zdr, Od⟩
  have hw := waits_tr m ρ K c _ _ _ (fun k => wTurn_tr m ρ K c k)
  rw [sepL_sep, sepL_sep, sepL_sep, sepL_sep, sepL_sep, sepL_sep] at hw
  iapply (hw _)
  isplitr; · iexact Hc
  isplitl [HO Cfs Afs Cfr Afr]
  · isplitl [HO]; · iexact HO
    isplitl [Cfs]; · iexact Cfs
    isplitl [Afs]; · iexact Afs
    isplitl [Cfr] <;> iassumption
  iintro ⟨HO, Zfs, F₁, Zfr, Og⟩
  have hl := waits_tr m ρ K c _ _ _ (fun k => lcWait_tr m ρ K c k)
  rw [sepL_sep, sepL_sep] at hl
  iapply (hl _)
  isplitr; · iexact Hc
  isplitl [HO Clc Alc]
  · isplitl [HO]; · iexact HO
    isplitl [Clc] <;> iassumption
  iintro ⟨HO, Zlc, Hl⟩
  iapply (hWait_tr m ρ K c _)
  isplitr; · iexact Hc
  isplitl [HO Ch Ah]
  · isplitl [HO]; · iexact HO
    isplitl [Ch] <;> iassumption
  iintro ⟨HO, Zh, Hh⟩
  -- the pieces together
  unfold payS
  ihave Hl := (Entails.of_eq (sepL_sep (fun k : Fin 6 => oPt c (Gout m ρ c) (rcv c + 192 * par c + 32 * k.val) 32)
    (fun k : Fin 6 => fPt c fullShare.right (FB m ρ c) (32 * k.val) 32) six)) $$ Hl
  icases Hl with ⟨Oc, F₂⟩
  icases Hh with ⟨Oh, X₂⟩
  iapply Hk
  unfold endP
  rw [dlist_eq (fun q => fin (F := F) c q)]
  isplitl [HO]; · iexact HO
  isplitl [Zb]; · iexact Zb
  isplitl [Zzs Zds Zzr Zdr Zfs Zfr Zlc Zh]
  · isplitl [Zzs]; · iexact Zzs
    isplitl [Zds]; · iexact Zds
    isplitl [Zzr]; · iexact Zzr
    isplitl [Zdr]; · iexact Zdr
    isplitl [Zfs]; · iexact Zfs
    isplitl [Zfr]; · iexact Zfr
    isplitl [Zlc] <;> iassumption
  isplitl [Xc Xr Xd X₂]
  · iapply (Entails.of_eq (xPt_halves c (xstg m ρ c) 0 512).symm)
    isplitl [Xc Xr Xd]
    · iapply (Entails.of_eq (x_split c fullShare.left (xstg m ρ c)).symm)
      isplitl [Xc]; · iexact Xc
      isplitl [Xr] <;> iassumption
    iexact X₂
  isplitl [F₁ F₂]
  · iexists (FB m ρ c)
    iapply (Entails.of_eq (fPt_halves c (FB m ρ c) 0 192).symm)
    isplitl [F₁]
    · iapply (Entails.of_eq (f_split c fullShare.left (FB m ρ c)).symm); iexact F₁
    iapply (Entails.of_eq (f_split c fullShare.right (FB m ρ c)).symm); iexact F₂
  iapply (Entails.of_eq (o_split c (Gout m ρ c)).symm)
  isplitl [Oh]; · iexact Oh
  isplitl [Oc]; · iexact Oc
  isplitl [Og] <;> iassumption

end Cert.KernelIdeal.Exch

end
-- ==== Proof.KI.Fund.lean ====
/-
What the launch deals the devices: the cells of the exchange with their invariants, each device's places in the rounds
and the rights it spends, and the credits its waits consume.
-/
module

public import proofs.«01_k».proof.Proof.KI.Whole

@[expose] public section

noncomputable section

namespace Cert.KernelIdeal.Exch

open Cert.KernelIdeal Cert.KernelIdeal.Gen Cert.Lists
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores as a whole -/

/-- The kernel's own DMA semaphores as the launch counts them: all but the staging's. -/
abbrev osem (k : Fin 33) : SemLoc sig := .dma (k.succ : Fin 34)

theorem ownSemFacts : Pipeline.OwnSemFacts cfg0.spec osem := by decide

theorem csem_zero : csem 0 = .reg barS := if_pos rfl
theorem csem_dma (q : DmaSem sig) (h : q.val ≠ 0) : csem q = .dma q := if_neg h
theorem dlist_ne (q : DmaSem sig) (h : q ∈ dlist) : q.val ≠ 0 := by revert h; revert q; decide
theorem dlist_nodup : (dlist : List (DmaSem sig)).Nodup := by decide
theorem dlist_own : (dlist : List (Fin 34)).toFinset = Finset.univ.map (Fin.succEmb 33) := by decide

omit [FloatOps F] in
/-- Over all the numbers: the barrier's, and the kernel's DMA semaphores. -/
theorem all_split (A : Fin 34 → sProp 𝕄) : bigSep Finset.univ A = iprop(A 0 ∗ sepL A (dlist : List (Fin 34))) := by
  have e : (Finset.univ : Finset (Fin 34)) = ((0 : Fin 34) :: (dlist : List (Fin 34))).toFinset := by decide
  rw [e, ← sepL_eq_bigSep A (by decide), sepL_cons]

omit [FloatOps F] in
theorem ownSems0_eq (c : Dev nD) : (Pipeline.ownSems0 (Ix := Unit) (Name := ℕ) (U := UU) (Lvl := ℕ) (Val := Elt F) (τ := τ) osem c : sProp 𝕄)
    = sepL (fin c) dlist := by
  rw [sepL_eq_bigSep (fin (F := F) c) dlist_nodup]
  refine Eq.trans ?_ (congrArg (fun s => bigSep s (fin (F := F) c)) dlist_own.symm)
  rw [bigSep_map]; rfl

omit [FloatOps F] in
theorem unscopedSems0_eq (c : Dev nD) : (unscopedSems0 c : sProp 𝕄) = semVal (bcell c) 0 := by
  unfold unscopedSems0; rw [bigSep_eq_bigSepL_of_eq [SemLoc.reg barS] (by decide) (by decide)]; rfl

omit [FloatOps F] in
/-- A family over a device's cells: the barrier's, and its DMA semaphores'. -/
theorem cells_split (c : Dev nD) (A : GSem nD τ sig → sProp 𝕄) :
    (bigSep Finset.univ fun i : Fin 34 => A (kcell (c, i))) = iprop(A (bcell c) ∗ sepL (fun q => A (dcell c q)) dlist) := by
  rw [all_split (fun i => A (kcell (c, i)))]
  refine congrArg (fun P => iprop(A (bcell c) ∗ P)) (sepL_congr dlist fun q hq => ?_)
  exact congrArg (fun s => A ((c : Thread nD τ), s)) (csem_dma q (dlist_ne q hq))

/-! ## Cells and rights as minted -/

theorem csem_inj : Function.Injective csem := by decide
theorem kcell_inj : Function.Injective (kcell : Dev nD × Fin 34 → GSem nD τ sig) := by
  rintro ⟨c, i⟩ ⟨c', i'⟩ h
  have h1 : c = c' := congrArg (fun g : GSem nD τ sig => g.1.1) h
  have h2 : i = i' := csem_inj (congrArg Prod.snd h)
  rw [h1, h2]

/-- The duty `d` of cell `i` of device `c`. -/
abbrev duty (p : Dev nD × Fin 34 × Fin 3) : GSem nD τ sig × ℕ × Fin 3 := (kcell (p.1, p.2.1), 0, p.2.2)
theorem duty_inj : Function.Injective duty := by
  rintro ⟨c, i, d⟩ ⟨c', i', d'⟩ h
  have h1 : (c, i) = (c', i') := kcell_inj (congrArg Prod.fst h)
  have h2 : d = d' := congrArg (fun x : GSem nD τ sig × ℕ × Fin 3 => x.2.2) h
  rw [Prod.mk.injEq] at h1
  rw [h1.1, h1.2, h2]

def allCells : Finset (GSem nD τ sig) := Finset.univ.map ⟨kcell, kcell_inj⟩
def allDuties : Finset (GSem nD τ sig × ℕ × Fin 3) := Finset.univ.map ⟨duty, duty_inj⟩

/-- The launch's ghost state: the staging's and the exchange's. -/
def u₀ : UU :=
  (initOf (Pipeline.cells cfgs cellOf_inj) (Pipeline.launchToks cfgs cellOf_inj), initOf allCells allDuties)

/-- All the duties of the cells of device `c`. -/
def minted (c : Dev nD) : sProp 𝕄 :=
  bigSep Finset.univ fun x : Fin 34 × Fin 3 => dutyTok ER (kcell (c, x.1)) 0 x.2

/-- What is minted for device `c`. -/
def G (c : Dev nD) : sProp 𝕄 :=
  iprop((bigSep Finset.univ fun i : Fin 34 => roundState ER (Rd m ρ) (kcell (c, i)) 0)
    ∗ (bigSep Finset.univ fun i : Fin 34 => atPos ER (kcell (c, i)) 0 ∅ 0)
    ∗ (bigSep Finset.univ fun i : Fin 34 => reached ER (kcell (c, i)) 0) ∗ minted c)

omit [FloatOps F] in
theorem over_cells (A : GSem nD τ sig → sProp 𝕄) :
    bigSep allCells A = bigSep Finset.univ fun c : Dev nD => bigSep Finset.univ fun i : Fin 34 => A (kcell (c, i)) := by
  unfold allCells; rw [bigSep_map, bigSep_univ_prod]; rfl

omit [FloatOps F] in
theorem over_duties : bigSep allDuties (fun x => (dutyTok ER x.1 x.2.1 x.2.2 : sProp 𝕄)) = bigSep Finset.univ fun c : Dev nD => minted c := by
  unfold allDuties; rw [bigSep_map, bigSep_univ_prod]; rfl

omit [FloatOps F] in
theorem mint : BI.own (ER (initOf allCells allDuties)) ⊢ (|==> bigSep Finset.univ (G m ρ) : sProp 𝕄) := by
  have h := Rounds.fund ER (Rd (F := F) m ρ) allCells allDuties
  rw [over_cells (fun g => roundState ER (Rd m ρ) g 0), over_cells (fun g => reached ER g 0), over_cells (fun g => atPos ER g 0 ∅ 0), over_duties] at h
  iintro H
  imod h $$ H with ⟨Hs, Hr, Ha, Ht⟩
  imodintro
  unfold G; simp only [bigSep_sep']
  isplitl [Hs]; · iexact Hs
  isplitl [Ha]; · iexact Ha
  isplitl [Hr] <;> iassumption

/-! ## The rights dealt to the devices that spend them -/

/-- The device that device `c` signals on the cell and duty. -/
def peer (x : Fin 34 × Fin 3) (c : Dev nD) : Dev nD := if x.1.val = 0 then bn c x.2 else pr c (x.1 : DmaSem sig)

theorem peer_peer (x : Fin 34 × Fin 3) (c : Dev nD) : peer x (peer x c) = c := by
  unfold peer; split
  · exact bn_bn c x.2
  · exact pr_pr c _

def peerEquiv (x : Fin 34 × Fin 3) : Dev nD ≃ Dev nD := ⟨peer x, peer x, peer_peer x, peer_peer x⟩

/-- The rights device `c` spends: its three signals, and its transfers' both ends. -/
def spend (c : Dev nD) : sProp 𝕄 :=
  iprop(sepL (fun d => btok (F := F) (bn c d) d) [0, 1, 2] ∗ sepL (fun q => tok (F := F) (pr c q) q) dlist)

omit [FloatOps F] in
theorem spend_of (c : Dev nD) : (bigSep Finset.univ fun x : Fin 34 × Fin 3 => (dutyTok ER (kcell (peer x c, x.1)) 0 x.2 : sProp 𝕄)) ⊢ spend c := by
  rw [bigSep_univ_prod (fun x : Fin 34 × Fin 3 => (dutyTok ER (kcell (peer x c, x.1)) 0 x.2 : sProp 𝕄)),
    all_split (fun i => bigSep Finset.univ fun d : Fin 3 => (dutyTok ER (kcell (peer (i, d) c, i)) 0 d : sProp 𝕄))]
  unfold spend
  refine BI.sep_mono ?_ ?_
  · rw [sepL_eq_bigSep _ (by decide)]
    exact BI.Entails.refl _
  · refine BIBase.Entails.trans (sepL_mono (B := fun q : Fin 34 => (dutyTok ER (kcell (peer (q, 0) c, q)) 0 0 : sProp 𝕄)) dlist fun q =>
      bigSep_elim (Φ := fun d : Fin 3 => (dutyTok ER (kcell (peer (q, d) c, q)) 0 d : sProp 𝕄)) (Finset.mem_univ 0)) ?_
    refine Entails.of_eq (sepL_congr dlist fun q hq => ?_)
    · have hp : peer (q, 0) c = pr c q := if_neg (dlist_ne q hq)
      rw [hp]
      exact congrArg (fun s => (dutyTok ER ((pr c q : Thread nD τ), s) 0 0 : sProp 𝕄)) (csem_dma q (dlist_ne q hq))

omit [FloatOps F] in
theorem deal : (bigSep Finset.univ fun c : Dev nD => (minted c : sProp 𝕄)) ⊢ bigSep Finset.univ fun c : Dev nD => spend c := by
  unfold minted
  rw [bigSep_univ_comm]
  rw [bigSep_congr (s := Finset.univ) fun (x : Fin 34 × Fin 3) _ =>
    bigSep_univ_equiv (peerEquiv x) (fun c : Dev nD => (dutyTok ER (kcell (c, x.1)) 0 x.2 : sProp 𝕄)), bigSep_univ_comm]
  exact bigSep_mono fun c _ => spend_of c

/-! ## The invariants, allocated for all devices at once -/

/-- What stays with one device. -/
def linear (c : Dev nD) : sProp 𝕄 :=
  iprop((atPos ER (bcell c) 0 ∅ 0 ∗ sepL (pos (F := F) c) dlist) ∗ spend c)

/-- What device `c` starts from, of the exchange. -/
def G' (c : Dev nD) : sProp 𝕄 := iprop(∃ K, records m ρ K ∗ linear c)

omit [FloatOps F] in
theorem cells_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Fin 34 => iprop(∃ κ : ℕ, cellInv ER (Rd m ρ) κ (kcell (c, i))))
          ∗ (bigSep Finset.univ fun i : Fin 34 => atPos ER (kcell (c, i)) 0 ∅ 0)
          ∗ (bigSep Finset.univ fun i : Fin 34 => reached ER (kcell (c, i)) 0) ∗ minted c) := by
  unfold G
  rw [ownSems0_eq, unscopedSems0_eq]
  iintro ⟨Hd, Hb, Hs, Hrest⟩
  ihave Hv := (Entails.of_eq (cells_split c fun g => (semVal g 0 : sProp 𝕄)).symm) $$ [Hd Hb]
  · isplitl [Hb] <;> iassumption
  imod (show iprop((bigSep Finset.univ fun i : Fin 34 => semVal (kcell (c, i)) 0) ∗ bigSep Finset.univ fun i : Fin 34 => roundState ER (Rd m ρ) (kcell (c, i)) 0)
      ⊢ (|={Set.univ}=> bigSep Finset.univ fun i : Fin 34 => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hs] with Hi
  · isplitl [Hv] <;> iassumption
  imodintro
  isplitl [Hi] <;> iassumption

omit [FloatOps F] in
theorem linear_of : iprop((bigSep Finset.univ fun c : Dev nD => bigSep Finset.univ fun i : Fin 34 => (atPos ER (kcell (c, i)) 0 ∅ 0 : sProp 𝕄))
      ∗ bigSep Finset.univ fun c : Dev nD => (minted c : sProp 𝕄)) ⊢ bigSep Finset.univ fun c : Dev nD => (linear c : sProp 𝕄) := by
  unfold linear
  rw [bigSep_sep']
  refine BI.sep_mono (Entails.of_eq (bigSep_congr fun c _ => ?_)) deal
  exact cells_split c fun g => (atPos ER g 0 ∅ 0 : sProp 𝕄)

omit [FloatOps F] in
/-- What is known by all stays known to each. -/
theorem shared {I : Type} [DecidableEq I] {S : Finset I} {R : sProp 𝕄} [BI.Persistent R] {A B : I → sProp 𝕄}
    (h : ∀ i ∈ S, iprop(R ∗ A i) ⊢ B i) : iprop(R ∗ bigSep S A) ⊢ bigSep S B :=
  (sep_mono_left (BI.bigSep_of_persistent S R)).trans (by rw [← bigSep_sep']; exact bigSep_mono h)

omit [FloatOps F] in
theorem regroup : (bigSep Finset.univ fun c : Dev nD => iprop((bigSep Finset.univ fun i : Fin 34 => iprop(∃ κ : ℕ, cellInv ER (Rd m ρ) κ (kcell (c, i))))
          ∗ (bigSep Finset.univ fun i : Fin 34 => atPos ER (kcell (c, i)) 0 ∅ 0)
          ∗ (bigSep Finset.univ fun i : Fin 34 => reached ER (kcell (c, i)) 0) ∗ minted c) : sProp 𝕄)
    ⊢ bigSep Finset.univ (G' m ρ) := by
  rw [bigSep_sep', bigSep_sep', bigSep_sep',
    ← bigSep_univ_prod (fun p : Dev nD × Fin 34 => iprop(∃ κ : ℕ, cellInv ER (Rd m ρ) κ (kcell p))),
    ← bigSep_univ_prod (fun p : Dev nD × Fin 34 => (reached ER (kcell p) 0 : sProp 𝕄))]
  iintro ⟨HI, Ha, #HR, Ht⟩
  ihave HK := (BI.bigSep_exists_pi Finset.univ (fun (p : Dev nD × Fin 34) (κ : ℕ) => (cellInv ER (Rd m ρ) κ (kcell p) : sProp 𝕄))) $$ HI
  icases HK with ⟨%K, #HI⟩
  ihave Hl := (linear_of (F := F)) $$ [Ha Ht]
  · isplitl [Ha] <;> iassumption
  iapply (shared (R := records m ρ K) (A := linear) (B := G' m ρ) fun c _ => by unfold G'; iintro H; iexists K; iexact H)
  isplitr
  · unfold records; rw [bigSep_sep']
    isplitr
    · iexact HI
    iexact HR
  iexact Hl

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cells_alloc m ρ c).trans (bigSep_fupd _ _)).trans (BI.fupd_mono (regroup m ρ))

/-! ## The credits -/

/-- What a device owes at launch. -/
def O₀ (c : Dev nD) : CellTallies nD τ sig Unit := owedL (debts c)

theorem owedL_append (l l' : List (GSem nD τ sig × ℕ)) : owedL (l ++ l') = owedL l + owedL l' := by
  induction l with
  | nil => exact (zero_add _).symm
  | cons x l ih =>
    obtain ⟨g, n⟩ := x
    rw [List.cons_append, owedL_cons, owedL_cons, ih, add_right_comm]

omit [FloatOps F] in
theorem cred_append (a b : Dev nD → List (GSem nD τ sig × ℕ)) (c : Dev nD) :
    (Pipeline.launchCred (fun d => owedL (a d ++ b d)) c : sProp 𝕄)
      = iprop(Pipeline.launchCred (fun d => owedL (a d)) c ∗ Pipeline.launchCred (fun d => owedL (b d)) c) := by
  rw [← Pipeline.launchCred_add]
  exact congrArg (fun O => Pipeline.launchCred O c) (funext fun d => owedL_append _ _)

omit [FloatOps F] in
/-- Every device owing, for each entry of a list, one tally to the peer it is paired with, each device gets the credits
    of its own cells. -/
theorem cred_map {I : Type} (sm : I → SemLoc sig) (f : I → Dev nD → Dev nD) (hf : ∀ i c, f i (f i c) = c) (n : I → ℕ) (c : Dev nD) (l : List I) :
    (Pipeline.launchCred (fun d => owedL (l.map fun i => (((f i d : Thread nD τ), sm i), n i))) c : sProp 𝕄)
      ⊢ sepL (fun i => cred (tallyAt ((c : Thread nD τ), sm i) () (n i))) l := by
  induction l with
  | nil => exact Entails.of_eq (Pipeline.launchCred_zero c)
  | cons i l ih =>
    have e := Pipeline.launchCred_add (Val := Elt F) (Name := ℕ) (U := UU) (Lvl := ℕ)
      (fun d => owedL (l.map fun i => (((f i d : Thread nD τ), sm i), n i)))
      (fun d => (tallyAt ((f i d : Thread nD τ), sm i) () (n i) : CellTallies nD τ sig Unit)) c
    refine BIBase.Entails.trans (Entails.of_eq e) ?_
    rw [sepL_cons, sepComm]
    exact BI.sep_mono (Pipeline.launchCred_tallyAt (sm i) (f i) (f i) (hf i) (hf i) () (n i) c) ih

/-- The credits device `c` starts with. -/
def credits (c : Dev nD) : sProp 𝕄 :=
  iprop(cred (tallyAt (bcell c) () 3) ∗ sepL (fun k : Fin 6 => crd (F := F) c (zrS k.castSucc)) six ∗ crd (F := F) c (zrS 6)
    ∗ sepL (fun k : Fin 6 => crd (F := F) c (frS k)) six)

omit [FloatOps F] in
theorem cred_three (g : GSem nD τ sig) : sepL (fun _ : Fin 3 => (cred (tallyAt g () 1) : sProp 𝕄)) [0, 1, 2] ⊢ cred (tallyAt g () 3) := by
  rw [sepL_three, show (tallyAt g () 3 : CellTallies nD τ sig Unit) = tallyAt g () 1 + (tallyAt g () 1 + tallyAt g () 1) from by
    rw [tallyAt_add, tallyAt_add]]
  exact (sep_mono_right (cred_add _ _).2).trans (cred_add _ _).2

omit [FloatOps F] in
theorem credits_of (c : Dev nD) : (Pipeline.launchCred O₀ c : sProp 𝕄) ⊢ credits c := by
  unfold credits
  have e : (Pipeline.launchCred O₀ c : sProp 𝕄) = _ := cred_append (fun d => [0, 1, 2].map (debtB d)) (fun d => six.map (debtZ d) ++ ([debtD d] ++ six.map (debtF d))) c
  rw [e, cred_append (fun d => six.map (debtZ d)) (fun d => [debtD d] ++ six.map (debtF d)), cred_append (fun d => [debtD d]) (fun d => six.map (debtF d))]
  refine BI.sep_mono ?_ (BI.sep_mono ?_ (BI.sep_mono ?_ ?_))
  · exact (cred_map (fun _ : Fin 3 => .reg barS) (fun i d => bn d i) (fun i d => bn_bn d i) (fun _ => 1) c [0, 1, 2]).trans (cred_three (bcell c))
  · refine (cred_map (fun k : Fin 6 => .dma (zrS k.castSucc)) (fun _ d => zn d) (fun _ d => zn_zn d) (fun _ => N32) c six).trans ?_
    exact Entails.of_eq (sepL_congr six fun k _ => congrArg (fun n => (cred (tallyAt (dcell c (zrS k.castSucc)) () n) : sProp 𝕄)) (amt_zr k).symm)
  · refine (cred_map (fun _ : Unit => .dma (zrS 6)) (fun _ d => zn d) (fun _ d => zn_zn d) (fun _ => N128) c [()]).trans ?_
    rw [sepL_one]
    exact Entails.of_eq (congrArg (fun n => (cred (tallyAt (dcell c (zrS 6)) () n) : sProp 𝕄)) amt_dr.symm)
  · refine (cred_map (fun k : Fin 6 => .dma (frS k)) (fun k d => fn d k.val) (fun k d => fn_fn d k.val) (fun _ => N32) c six).trans ?_
    exact Entails.of_eq (sepL_congr six fun k _ => congrArg (fun n => (cred (tallyAt (dcell c (frS k)) () n) : sProp 𝕄)) (amt_fr k).symm)

end Cert.KernelIdeal.Exch

end
-- ==== Proof.KI.Launch.lean ====
/-
The launch: the kernel's body under the pipeline that stages its operand, on all eight devices, from any memory to a
memory whose result arrays are filled, whose operands are as they were and whose semaphores are at zero.
-/
module

public import proofs.«01_k».proof.Proof.KI.Fund
public import proofs.«01_k».proof.Proof.Gen.KernelIdeal.Points
public import Idealize.ShloMosaic.Lib.Pipeline.CollectiveSegs

@[expose] public section

noncomputable section

namespace Cert.KernelIdeal.Exch

open Cert.KernelIdeal Cert.KernelIdeal.Gen Cert.Lists
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel starts from and ends with -/

/-- A device's result array, whole, holding `f`. -/
abbrev outPt (c : Dev nD) (f : OBuf F) : sProp 𝕄 := ((c : Thread nD τ).loc main_v1) ↦{fullShare} f

def start (c : Dev nD) : sProp 𝕄 :=
  iprop(G' m ρ c ∗ credits (F := F) c ∗ levAts L lv ∗ outPt c (m ((c : Thread nD τ).loc main_v1)))

def Φ₀ (c : Dev nD) : sProp 𝕄 :=
  iprop(start m ρ c ∗ ∃ f : FBuf F, ((c : Thread nD τ).loc cc0_scratch0) ↦{fullShare} f)

def Φ₁ (c : Dev nD) : sProp 𝕄 :=
  iprop((∃ f : FBuf F, ((c : Thread nD τ).loc cc0_scratch0) ↦{fullShare} f) ∗ semVal (bcell c) 0 ∗ sepL (fin (F := F) c) dlist ∗ outPt c (Gout m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The body -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staged operand, in the form the pipeline gives and takes it. -/
abbrev stg (c : Dev nD) (X : XBuf F) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m ρ c ∗ (dats m ρ 0 c).owesAt () t0_0.castSucc ∗ (∃ d, stg c ((dats m ρ 0 c).before (0 : Fin 1) t0_0 d)))
def bodyPost (c : Dev nD) : sProp 𝕄 :=
  iprop(Φ₁ m ρ c ∗ (dats m ρ 0 c).owesAt () t0_0.succ ∗ stg c (xstg m ρ c))

theorem body_run (c : Dev nD) :
    bodyPre m ρ c ⊢ wp frame (wpE (defs₀ (F := F)) 𝒱₀ c none) Set.univ
      (cc0_body xM (Memref.isWhole_whole _) oM (Memref.isWhole_whole _) fM (Memref.isWhole_whole _)
        cc0_scratch1 cc0_scratch2 cc0_scratch3 cc0_scratch4 cc0_scratch5 cc0_scratch6) (fun _ => bodyPost m ρ c) := by
  rw [body_eq]
  simp only [Prog.lift, Prog.bind_op, Prog.bind_ret, wp_deviceId]
  unfold bodyPre Φ₀ start G' linear spend credits Dat.owesAt Pipeline.owesWithin
  iintro ⟨⟨⟨⟨%K, #Hr, ⟨Hab, Had⟩, Htb, Htd⟩, ⟨Hcb, Hcz, Hcd, Hcf⟩, #Hl, Ho⟩, ⟨%f, Hf⟩⟩, ⟨%W, %hW, HO⟩, ⟨%d, %g, %hg, Hx⟩⟩
  have hx : g = xstg m ρ c := by rw [hg]; unfold Dat.before; rw [if_pos (fetch0_0 t0_0)]; rfl
  subst hx
  rw [show (dats m ρ 0 c).owed t0_0.castSucc = owedL (debts c) from rfl]
  iapply (walk_tr m ρ K c (fun _ => bodyPost m ρ c))
  isplitr
  · unfold ctx; isplitr
    · iexact Hr
    iexact Hl
  isplitr []
  · unfold startP owe
    isplitl [HO]; · iexists W; iexact HO
    isplitl [Htb]; · iexact Htb
    isplitl [Hcb]; · iexact Hcb
    isplitl [Hab]; · iexact Hab
    isplitl [Htd]; · iexact Htd
    isplitl [Had]; · iexact Had
    isplitl [Hcz]; · iexact Hcz
    isplitl [Hcd]; · iexact Hcd
    isplitl [Hcf]; · iexact Hcf
    isplitl [Hx]; · rw [xPt_all]; iexact Hx
    isplitl [Hf]; · iexists f; rw [fPt_all]; iexact Hf
    iexists _; rw [oPt_all]; iexact Ho
  unfold endP owe
  iintro ⟨⟨%W', HO⟩, Hzb, Hzd, Hx, ⟨%f', Hf⟩, Ho⟩
  unfold bodyPost Φ₁ Dat.owesAt Pipeline.owesWithin
  rw [show (dats m ρ 0 c).owed t0_0.succ = owedL [] from rfl]
  isplitl [Hzb Hzd Hf Ho]
  · isplitl [Hf]; · iexists f'; rw [← fPt_all]; iexact Hf
    isplitl [Hzb]; · iexact Hzb
    isplitl [Hzd]; · iexact Hzd
    unfold outPt; rw [← oPt_all]; iexact Ho
  isplitl [HO]
  · iexists W'
    isplitr; · ipureintro; exact fun _ _ => Or.inl trivial
    iexact HO
  iexists _; isplitr; · (ipureintro; rfl)
  rw [← xPt_all]; iexact Hx

theorem body_obligation (c : Dev nD) : BodyObligation (dats (F := F) m ρ 0 c) (defs₀ (F := F)) 𝒱₀ () Set.univ := fun t => by
  rw [fin_N0 t]
  rw [show ∀ A : Fin cfg0.W → sProp 𝕄, bigSep Finset.univ A = A (0 : Fin 1) from fun A => bigSep_W0 A,
    show ∀ A : Fin cfg0.W → sProp 𝕄, bigSep Finset.univ A = A (0 : Fin 1) from fun A => bigSep_W0 A]
  simp only [owns_whole]
  exact body_run m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Ho, Hl, Hc, -, HG⟩
  ihave Hc := (credits_of (F := F) c) $$ Hc
  imodintro
  unfold start
  isplitl
  · isplitl [HG]; · iexact HG
    isplitl [Hc]; · iexact Hc
    isplitl [Hl] <;> iassumption
  iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hf⟩
  isplitl [Hs] <;> iassumption

/-- What a device's region leaves: its barrier semaphore at zero and its result array filled. -/
def left (c : Dev nD) : sProp 𝕄 := iprop(unscopedSems0 c ∗ outPt c (Gout m ρ c))

theorem phi_out (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ left
  rw [unscopedSems0_eq]
  iintro ⟨Hf, Hb, Hd, Ho⟩
  isplitl [Hb Ho]
  · isplitl [Hb] <;> iassumption
  isplitl [Hd] <;> iassumption

theorem waits (c : Dev nD) : (levAts L lv : sProp 𝕄) ⊢ Pipeline.cellsWaits cfgs (dats m ρ) () 0 c :=
  Pipeline.cellsWaits_intro cfgs (dats m ρ) () 0 c fun w s t => by
    have hs : ∀ (w : Fin 1) (s : Fin (spec0 w).nbuf), lv ((c : Thread nD τ), .dma ((spec0 w).sem s)) () = 0 := by
      intro w s; fin_cases w; fin_cases s; rfl
    rcases t with ⟨_ | _, ht⟩
    · refine mayWait c (.dma ((spec0 w).sem s)) (debts c) ?_
      rw [hs w s]
      exact above_append.mpr ⟨above_B c _, above_append.mpr ⟨above_mono (Nat.zero_le 1) (above_Z c _),
        above_append.mpr ⟨above_mono (Nat.zero_le 1) (above_D c), above_mono (Nat.zero_le 2) (above_F c _)⟩⟩⟩
    · exact mayWait c (.dma ((spec0 w).sem s)) [] (above_nil _)

/-- What the run's final memory is told of a device. -/
def told (c : Dev nD) (s : MemSt nD τ sig (Elt F)) : Prop :=
  (∀ sm : SemLoc sig, sm.isScoped .tc = false → s.sem ((c : Thread nD τ), sm) = 0) ∧ s.mem ((c : Thread nD τ).loc main_v1) = Gout m ρ c

theorem read_left (c : Dev nD) (s : Phys nD τ sig (Elt F)) :
    iprop(left m ρ c ∗ emp ∗ SI s) ⊢ |={Set.univ}=> iprop(⌜told m ρ c s.mem⌝ ∗ SI s) := by
  unfold left
  iintro ⟨⟨Hu, Ho⟩, -, HSI⟩
  imod (Pipeline.unscopedSems0_read (X := unscopedSems0 c) (c := c) fupd_intro s) $$ [Hu HSI] with ⟨%hz, HSI⟩
  · isplitl [Hu] <;> iassumption
  icombine HSI Ho gives %h
  imodintro
  isplitr; · ipureintro; exact ⟨hz, funext fun i => h i (Finset.mem_univ i)⟩
  iexact HSI

/-- The final state: every result array filled, every operand as it was. -/
def Done : PUnit × MemSt nD τ sig (Elt F) → Prop := fun r => ∀ c : Dev nD,
  r.2.mem ((c : Thread nD τ).loc main_v1) = Gout m ρ c ∧ r.2.mem ((c : Thread nD τ).loc main_arg0) = m ((c : Thread nD τ).loc main_arg0)

set_option maxRecDepth 8000 in
/-- At the mesh of eight devices, for any floats, from any memory with every semaphore at zero: every execution
    terminates, with every device's result array filled, its operand unchanged and every semaphore at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi_in m ρ) (hout := phi_out m ρ)
    (QY := told m ρ) (hY := read_left m ρ)
    (hQ := fun _ h hs => ⟨fun c => ⟨(h c).2.2.2, ((h c).1 (0 : Fin 1)).trans ((dats (F := F) m ρ 0 c).arrAt_in (0 : Fin 1) rfl _)⟩,
      sem_eq_zero hs fun c => (h c).2.2.1⟩)

end Cert.KernelIdeal.Exch

end
-- ==== Proof.KI.Value.lean ====
/-
The value: when the devices' operands are the blocks of one array, every device's result array is that array.
-/
module

public import proofs.«01_k».proof.Proof.KI.Launch
public import Idealize.ShloMosaic.Lib.Layout

@[expose] public section

noncomputable section

namespace Cert.KernelIdeal.Exch

open Cert.KernelIdeal Cert.KernelIdeal.Gen
open Idealize.ShloMosaic
open Idealize.ShloMosaic.TcCoe
open Idealize.SL.Sem
open Idealize.ShloMosaic.ValueIdx (ix2)

variable {F : FTy → Type} [FloatOps F]

variable (m : (ℓ : Loc nD τ sig) → Buf (Elt F) ℓ) (ρ : Dev nD → PrngReg)

omit [FloatOps F] in
/-- The staged operand is the operand array itself. -/
theorem xstg_apply (c : Dev nD) (i : (⟨2, ![512, 512]⟩ : Shape).Idx) : xstg m ρ c i = m ((c : Thread nD τ).loc main_arg0) i := by
  refine congrArg (m ((c : Thread nD τ).loc main_arg0)) (funext fun a => ?_)
  match a with
  | ⟨0, _⟩ => exact Fin.ext (by show 0 * 512 + 1 * (i 0).val = (i 0).val; omega)
  | ⟨1, _⟩ => exact Fin.ext (by show 0 * 512 + 1 * (i 1).val = (i 1).val; omega)

theorem zn_half (c : Dev nD) : (zn c).val % 2 = 1 - c.val % 2 := by revert c; decide
theorem fn_half (c : Dev nD) (k : ℕ) : (fn c k).val % 2 = c.val % 2 := by unfold fn; split <;> (revert c; decide)

/-- Row `r` of every device's result comes from a device that holds the half row `r` is in. -/
theorem src_half (c : Dev nD) (r : ℕ) (hr : r < 1024) : (src c r).val % 2 = r / 512 := by
  unfold src
  split
  · omega
  · split
    · rw [zn_half]; omega
    · split
      · rw [zn_half]; omega
      · rw [zn_half, fn_half]; omega

/-- The mesh coordinate by which the rows are cut: a device's own half. -/
theorem half_of (c : Dev nD) : Layout.meshLin [2, 2, 2] c.val [2] = c.val % 2 := by revert c; decide

section Blocks
variable {kN : Fin 2 → ℕ} (t : Layout.TilesN ⟨2, ![512, 512]⟩ ⟨2, ![1024, 512]⟩ kN) (j : (b : Fin 2) → Fin (kN b))
  (i : (⟨2, ![512, 512]⟩ : Shape).Idx)

/-- Where a block's entry lies in the array, by row and by column. -/
theorem block_row : (t.idx j i 0).val = (j 0).val * 512 + (i 0).val := rfl
theorem block_col : (t.idx j i 1).val = (j 1).val * 512 + (i 1).val := rfl

end Blocks

omit [FloatOps F] in
/-- From operands that are the blocks of `v`, every device's result array is `v`. -/
theorem Gout_eq (v : (⟨2, ![1024, 512]⟩ : Shape).Idx → Elt F .f32)
    (h : ∀ c : Dev nD, m ((c : Thread nD τ).loc main_arg0)
      = Layout.blockN ⟨2, ![512, 512]⟩ ⟨2, ![1024, 512]⟩ (Layout.meshBlock [2, 2, 2] ![[2], []] c) v) (c : Dev nD) :
    Gout m ρ c = v := by
  funext i
  have hr : (i 0).val < 1024 := (i 0).isLt
  have hs := src_half c (i 0).val hr
  unfold Gout xrow
  rw [xstg_apply, h, Layout.blockN_apply]
  refine congrArg v (funext fun a => Fin.ext ?_)
  match a with
  | ⟨0, _⟩ =>
    refine (block_row _ _ _).trans ?_
    rw [Layout.meshBlock_val]
    show Layout.meshLin [2, 2, 2] (src c (i 0).val).val [2] * 512 + (i 0).val % 512 = (i 0).val
    rw [half_of]; omega
  | ⟨1, _⟩ =>
    refine (block_col _ _ _).trans ?_
    rw [Layout.meshBlock_val]
    show 0 * 512 + (i 1).val = (i 1).val
    omega

end Cert.KernelIdeal.Exch

end
-- ==== Proof.Ref.lean ====
/-
The reference returns its argument: it runs no operation, so it ends in the memory it was launched in.
-/
module

public import proofs.«01_k».proof.ReferenceIdeal
public import proofs.«01_k».proof.Proof.Gen.ReferenceIdeal
public import Idealize.ShloMosaic.Lib.StableHlo.RunHlo
public import Idealize.ShloMosaic.Lib.Quiescent

@[expose] public section

noncomputable section

namespace Cert.ReferenceIdeal.Exch

open Cert.ReferenceIdeal Cert.ReferenceIdeal.Gen
open Idealize.ShloMosaic Idealize.SL.Sem

variable {F : FTy → Type} [FloatOps F]

/-- Every run of the reference ends, with the argument as it was at launch and all semaphores at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  θ_run_mono (StableHlo.run_seq (by decide) (by decide) defs main (fun _ => []) (fun _ => rfl) (fun _ => trivial) m ρ)
    fun r h => ⟨fun c => h c main_arg0, sem_eq_zero_of_no_sems (by decide) r.2⟩

end Cert.ReferenceIdeal.Exch

end
-- ==== Proof.lean ====
/-
The claims, assembled: the kernel's runs at both instances, the reference's run, and the equation between the two
results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.K.Launch
public import proofs.«01_k».proof.Proof.KI.Value
public import proofs.«01_k».proof.Proof.Ref
public import Idealize.ShloMosaic.Adequacy
public import Idealize.ShloMosaic.Init

@[expose] public section

noncomputable section

namespace Cert.Proof

open Idealize.ShloMosaic Idealize.SL.Sem Cert.Kernel

/-- All the claims: the three programs' runs; no rewritten operation to answer for; and, each device being given its
    half of the reference's array, that whole array as the result on every device. -/
theorem claim : Cert.Claim :=
  ⟨Cert.Kernel.Gen.facts, Cert.KernelIdeal.Gen.facts, Cert.ReferenceIdeal.Gen.facts,
    fun m g _ => θ_run_mono (Cert.Kernel.Exch.run_main m g) fun _ h => ⟨fun c => (h.1 c).2, h.2⟩,
    fun m g _ => θ_run_mono (Cert.KernelIdeal.Exch.run_main m g) fun _ h => ⟨fun c => (h.1 c).2, h.2⟩,
    fun m g _ => Cert.ReferenceIdeal.Exch.run_main m g,
    trivial,
    fun m g m' g' _ hm =>
      ⟨m' (((0 : Dev Cert.ReferenceIdeal.nD).tc : Thread Cert.ReferenceIdeal.nD Cert.ReferenceIdeal.τ).loc Cert.ReferenceIdeal.main_arg0),
        θ_run_mono (Cert.KernelIdeal.Exch.run_main m g) fun _ h c =>
          ⟨(h.1 c).1.trans (Cert.KernelIdeal.Exch.Gout_eq m g _ hm c), (h.1 c).2⟩,
        θ_run_mono (Cert.ReferenceIdeal.Exch.run_main m' g') fun _ h => ⟨h.1 0, h.1 0⟩⟩⟩

end Cert.Proof

end
